-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v25)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x16384x512 : Shape := ⟨3, ![2, 16384, 512]⟩
abbrev S2x16384x256 : Shape := ⟨3, ![2, 16384, 256]⟩
abbrev S1x4 : Shape := ⟨2, ![1, 4]⟩
abbrev S_ : Shape := ⟨0, ![]⟩
abbrev S4 : Shape := ⟨1, ![4]⟩
abbrev S1x4096x512 : Shape := ⟨3, ![1, 4096, 512]⟩
abbrev S1x4096x256 : Shape := ⟨3, ![1, 4096, 256]⟩
abbrev S1x128x256 : Shape := ⟨3, ![1, 128, 256]⟩
abbrev S128x256 : Shape := ⟨2, ![128, 256]⟩
abbrev S1x128x128 : Shape := ⟨3, ![1, 128, 128]⟩
abbrev S128x128 : Shape := ⟨2, ![128, 128]⟩
abbrev S256x128 : Shape := ⟨2, ![256, 128]⟩
abbrev S1 : Shape := ⟨1, ![1]⟩
abbrev S128 : Shape := ⟨1, ![128]⟩
abbrev S128x1 : Shape := ⟨2, ![128, 1]⟩
abbrev S1x256x128 : Shape := ⟨3, ![1, 256, 128]⟩

abbrev nBuf : Space → Nat
  | .hbm => 16
  | .vmem => 12
  | .smem => 1
  | _ => 0

abbrev bufTy : (tb : Table) → Fin (tcTables nBuf tb) → BufTy
  | .hbm, ⟨0, _⟩ => ⟨S2x16384x512, .f32⟩
  | .hbm, ⟨1, _⟩ => ⟨S2x16384x256, .f32⟩
  | .hbm, ⟨2, _⟩ => ⟨S2x16384x256, .f32⟩
  | .hbm, ⟨3, _⟩ => ⟨S1x4, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x16384x512, .f32⟩
  | .hbm, ⟨10, _⟩ => ⟨S2x16384x512, .f32⟩
  | .hbm, ⟨11, _⟩ => ⟨S2x16384x512, .bf16⟩
  | .hbm, ⟨12, _⟩ => ⟨S2x16384x256, .bf16⟩
  | .hbm, ⟨13, _⟩ => ⟨S2x16384x256, .bf16⟩
  | .hbm, ⟨14, _⟩ => ⟨S4, .f32⟩
  | .hbm, ⟨15, _⟩ => ⟨S2x16384x512, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x4096x512, .bf16⟩
  | .local _ .vmem, ⟨11, _⟩ => ⟨S1x4096x512, .bf16⟩
  | .local _ .smem, ⟨0, _⟩ => ⟨S4, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S2x16384x512 : Shape := ⟨3, ![2, 16384, 512]⟩
abbrev S2x16384x256 : Shape := ⟨3, ![2, 16384, 256]⟩
abbrev S1x4 : Shape := ⟨2, ![1, 4]⟩
abbrev S2x128x128x2x2x128 : Shape := ⟨6, ![2, 128, 128, 2, 2, 128]⟩
abbrev S2x128x128x2x128 : Shape := ⟨5, ![2, 128, 128, 2, 128]⟩
abbrev S_ : Shape := ⟨0, ![]⟩
abbrev S2x129x128x2x128 : Shape := ⟨5, ![2, 129, 128, 2, 128]⟩
abbrev S2x128x256x2x128 : Shape := ⟨5, ![2, 128, 256, 2, 128]⟩
abbrev S2x128x2x256x128x2 : Shape := ⟨6, ![2, 128, 2, 256, 128, 2]⟩
abbrev S2x128x2x2x128x256 : Shape := ⟨6, ![2, 128, 2, 2, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x128x1x1x128x256 : Shape := ⟨6, ![1, 128, 1, 1, 128, 256]⟩
abbrev S2x128x2x2x128 : Shape := ⟨5, ![2, 128, 2, 2, 128]⟩
abbrev S4 : Shape := ⟨1, ![4]⟩
abbrev S1x1x2x2x1 : Shape := ⟨5, ![1, 1, 2, 2, 1]⟩
abbrev S2x128x2x2x128x1 : Shape := ⟨6, ![2, 128, 2, 2, 128, 1]⟩
abbrev S2x128x2x128x2x128 : Shape := ⟨6, ![2, 128, 2, 128, 2, 128]⟩
abbrev S2x128x128x2x2 : Shape := ⟨5, ![2, 128, 128, 2, 2]⟩
abbrev S2x128x128x2x2x1 : Shape := ⟨6, ![2, 128, 128, 2, 2, 1]⟩

abbrev nBuf : Space → Nat
  | .hbm => 86
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x256, .f32⟩
  | .hbm, ⟨2, _⟩ => ⟨S2x16384x256, .f32⟩
  | .hbm, ⟨3, _⟩ => ⟨S1x4, .f32⟩
  | .hbm, ⟨4, _⟩ => ⟨S2x128x128x2x2x128, .f32⟩
  | .hbm, ⟨5, _⟩ => ⟨S2x128x128x2x128, .f32⟩
  | .hbm, ⟨6, _⟩ => ⟨S2x128x128x2x128, .f32⟩
  | .hbm, ⟨7, _⟩ => ⟨S_, .i32⟩
  | .hbm, ⟨8, _⟩ => ⟨S_, .f32⟩
  | .hbm, ⟨9, _⟩ => ⟨S2x129x128x2x128, .f32⟩
  | .hbm, ⟨10, _⟩ => ⟨S2x128x128x2x128, .f32⟩
  | .hbm, ⟨11, _⟩ => ⟨S2x128x256x2x128, .f32⟩
  | .hbm, ⟨12, _⟩ => ⟨S_, .i32⟩
  | .hbm, ⟨13, _⟩ => ⟨S_, .f32⟩
  | .hbm, ⟨14, _⟩ => ⟨S2x129x128x2x128, .f32⟩
  | .hbm, ⟨15, _⟩ => ⟨S2x128x128x2x128, .f32⟩
  | .hbm, ⟨16, _⟩ => ⟨S2x128x256x2x128, .f32⟩
  | .hbm, ⟨17, _⟩ => ⟨S2x128x2x256x128x2, .f32⟩
  | .hbm, ⟨18, _⟩ => ⟨S2x128x2x2x128x256, .f32⟩
  | .hbm, ⟨19, _⟩ => ⟨S_, .f32⟩
  | .hbm, ⟨20, _⟩ => ⟨S_, .f32⟩
  | .hbm, ⟨21, _⟩ => ⟨S2x128x2x2x128x256, .f32⟩
  | .hbm, ⟨22, _⟩ => ⟨S2x128x2x2x128x256, .f32⟩
  | .hbm, ⟨23, _⟩ => ⟨S128, .i32⟩
  | .hbm, ⟨24, _⟩ => ⟨S128x1, .i32⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S128x256, .i1⟩
  | .hbm, ⟨40, _⟩ => ⟨S128, .i32⟩
  | .hbm, ⟨41, _⟩ => ⟨S_, .i32⟩
  | .hbm, ⟨42, _⟩ => ⟨S128, .i32⟩
  | .hbm, ⟨43, _⟩ => ⟨S128, .i1⟩
  | .hbm, ⟨44, _⟩ => ⟨S128x1x1, .i1⟩
  | .hbm, ⟨45, _⟩ => ⟨S_, .i32⟩
  | .hbm, ⟨46, _⟩ => ⟨S1x256, .i32⟩
  | .hbm, ⟨47, _⟩ => ⟨S1x256, .i1⟩
  | .hbm, ⟨48, _⟩ => ⟨S1x1x256, .i1⟩
  | .hbm, ⟨49, _⟩ => ⟨S128x1x256, .i1⟩
  | .hbm, ⟨50, _⟩ => ⟨S128x1x256, .i1⟩
  | .hbm, ⟨51, _⟩ => ⟨S128x1x256, .i1⟩
  | .hbm, ⟨52, _⟩ => ⟨S1x128x256, .i1⟩
  | .hbm, ⟨53, _⟩ => ⟨S128x128x256, .i1⟩
  | .hbm, ⟨54, _⟩ => ⟨S128x128x256, .i1⟩
  | .hbm, ⟨55, _⟩ => ⟨S128x128x256, .i1⟩
  | .hbm, ⟨56, _⟩ => ⟨S1x128x1x1x128x256, .i1⟩
  | .hbm, ⟨57, _⟩ => ⟨S_, .f32⟩
  | .hbm, ⟨58, _⟩ => ⟨S_, .f32⟩
  | .hbm, ⟨59, _⟩ => ⟨S2x128x2x2x128x256, .i1⟩
  | .hbm, ⟨60, _⟩ => ⟨S2x128x2x2x128x256, .f32⟩
  | .hbm, ⟨61, _⟩ => ⟨S2x128x2x2x128x256, .f32⟩
  | .hbm, ⟨62, _⟩ => ⟨S_, .f32⟩
  | .hbm, ⟨63, _⟩ => ⟨S2x128x2x2x128, .f32⟩
  | .hbm, ⟨64, _⟩ => ⟨S4, .f32⟩
  | .hbm, ⟨65, _⟩ => ⟨S1x1x2x2x1, .f32⟩
  | .hbm, ⟨66, _⟩ => ⟨S2x128x2x2x128, .f32⟩
  | .hbm, ⟨67, _⟩ => ⟨S2x128x2x2x128, .f32⟩
  | .hbm, ⟨68, _⟩ => ⟨S2x128x2x2x128x1, .f32⟩
  | .hbm, ⟨69, _⟩ => ⟨S2x128x2x2x128x256, .f32⟩
  | .hbm, ⟨70, _⟩ => ⟨S2x128x2x2x128x256, .f32⟩
  | .hbm, ⟨71, _⟩ => ⟨S2x128x2x2x128x256, .f32⟩
  | .hbm, ⟨72, _⟩ => ⟨S_, .f32⟩
  | .hbm, ⟨73, _⟩ => ⟨S2x128x2x2x128, .f32⟩
  | .hbm, ⟨74, _⟩ => ⟨S2x128x2x2x128, .f32⟩
  | .hbm, ⟨75, _⟩ => ⟨S2x128x2x2x128, .f32⟩
  | .hbm, ⟨76, _⟩ => ⟨S2x128x2x2x128, .f32⟩
  | .hbm, ⟨77, _⟩ => ⟨S2x128x2x2x128, .f32⟩
  | .hbm, ⟨78, _⟩ => ⟨S2x128x2x128x2x128, .f32⟩
  | .hbm, ⟨79, _⟩ => ⟨S2x128x128x2x2x128, .f32⟩
  | .hbm, ⟨80, _⟩ => ⟨S2x128x128x2x2, .f32⟩
  | .hbm, ⟨81, _⟩ => ⟨S2x128x128x2x2x1, .f32⟩
  | .hbm, ⟨82, _⟩ => ⟨S2x128x128x2x2x128, .f32⟩
  | .hbm, ⟨83, _⟩ => ⟨S2x128x128x2x2x128, .f32⟩
  | .hbm, ⟨84, _⟩ => ⟨S2x128x128x2x2x128, .bf16⟩
  | .hbm, ⟨85, _⟩ => ⟨S2x16384x512, .bf16⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel2.lean ====
abbrev S2x16384x1024 : Shape := ⟨3, ![2, 16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S4x256x1024 : Shape := ⟨3, ![4, 256, 1024]⟩
abbrev S4x256x2816 : Shape := ⟨3, ![4, 256, 2816]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1024x256 : Shape := ⟨2, ![1024, 256]⟩
abbrev S256x256 : Shape := ⟨2, ![256, 256]⟩
abbrev S1x256x256 : Shape := ⟨3, ![1, 256, 256]⟩
abbrev S1x256x2816 : Shape := ⟨3, ![1, 256, 2816]⟩
abbrev S256x2816 : Shape := ⟨2, ![256, 2816]⟩

abbrev nBuf : Space → Nat
  | .hbm => 15
  | .vmem => 11
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S32768x1024, .f32⟩
  | .hbm, ⟨6, _⟩ => ⟨S1024, .f32⟩
  | .hbm, ⟨7, _⟩ => ⟨S1x1024, .f32⟩
  | .hbm, ⟨8, _⟩ => ⟨S1024x5632, .f32⟩
  | .hbm, ⟨9, _⟩ => ⟨S1024x5632, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S4x256x1024, .bf16⟩
  | .local _ .vmem, ⟨9, _⟩ => ⟨S4x256x2816, .bf16⟩
  | .local _ .vmem, ⟨10, _⟩ => ⟨S4x256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x16384x1024 : Shape := ⟨3, ![2, 16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x5632 : Shape := ⟨2, ![1024, 5632]⟩
abbrev S2816x1024 : Shape := ⟨2, ![2816, 1024]⟩
abbrev S2x16384x5632 : Shape := ⟨3, ![2, 16384, 5632]⟩
abbrev S2x16384x2816 : Shape := ⟨3, ![2, 16384, 2816]⟩
abbrev S32768x1024 : Shape := ⟨2, ![32768, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1024, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S1024x5632, .f32⟩
  | .hbm, ⟨23, _⟩ => ⟨S2816x1024, .f32⟩
  | .hbm, ⟨24, _⟩ => ⟨S2x16384x5632, .f32⟩
  | .hbm, ⟨25, _⟩ => ⟨S2x16384x2816, .f32⟩
  | .hbm, ⟨26, _⟩ => ⟨S2x16384x2816, .f32⟩
  | .hbm, ⟨27, _⟩ => ⟨S2x16384x2816, .f32⟩
  | .hbm, ⟨28, _⟩ => ⟨S2x16384x2816, .f32⟩
  | .hbm, ⟨29, _⟩ => ⟨S_, .f32⟩
  | .hbm, ⟨30, _⟩ => ⟨S2x16384x2816, .f32⟩
  | .hbm, ⟨31, _⟩ => ⟨S2x16384x2816, .f32⟩
  | .hbm, ⟨32, _⟩ => ⟨S_, .f32⟩
  | .hbm, ⟨33, _⟩ => ⟨S2x16384x2816, .f32⟩
  | .hbm, ⟨34, _⟩ => ⟨S2x16384x2816, .f32⟩
  | .hbm, ⟨35, _⟩ => ⟨S2x16384x2816, .f32⟩
  | .hbm, ⟨36, _⟩ => ⟨S2x16384x2816, .f32⟩
  | .hbm, ⟨37, _⟩ => ⟨S2x16384x1024, .f32⟩
  | .hbm, ⟨38, _⟩ => ⟨S1024, .f32⟩
  | .hbm, ⟨39, _⟩ => ⟨S2x16384x1024, .f32⟩
  | .hbm, ⟨40, _⟩ => ⟨S_, .f32⟩
  | .hbm, ⟨41, _⟩ => ⟨S2x16384, .f32⟩
  | .hbm, ⟨42, _⟩ => ⟨S2x16384x1, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S2x16384x1, .f32⟩
  | .hbm, ⟨50, _⟩ => ⟨S2x16384x1024, .f32⟩
  | .hbm, ⟨51, _⟩ => ⟨S2x16384x1024, .f32⟩
  | .hbm, ⟨52, _⟩ => ⟨S1x1x1024, .f32⟩
  | .hbm, ⟨53, _⟩ => ⟨S2x16384x1024, .f32⟩
  | .hbm, ⟨54, _⟩ => ⟨S2x16384x1024, .f32⟩
  | .hbm, ⟨55, _⟩ => ⟨S_, .f32⟩
  | .hbm, ⟨56, _⟩ => ⟨S2x16384x1024, .f32⟩
  | .hbm, ⟨57, _⟩ => ⟨S2x16384x1024, .f32⟩
  | .hbm, ⟨58, _⟩ => ⟨S2x16384x1024, .f32⟩
  | .hbm, ⟨59, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernel3.lean ====
abbrev S2x16384x1024 : Shape := ⟨3, ![2, 16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S4x256x1024 : Shape := ⟨3, ![4, 256, 1024]⟩
abbrev S4x256x2816 : Shape := ⟨3, ![4, 256, 2816]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1024x256 : Shape := ⟨2, ![1024, 256]⟩
abbrev S256x256 : Shape := ⟨2, ![256, 256]⟩
abbrev S1x256x256 : Shape := ⟨3, ![1, 256, 256]⟩
abbrev S1x256x2816 : Shape := ⟨3, ![1, 256, 2816]⟩
abbrev S256x2816 : Shape := ⟨2, ![256, 2816]⟩

abbrev nBuf : Space → Nat
  | .hbm => 19
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S1024, .f32⟩
  | .hbm, ⟨8, _⟩ => ⟨S1x1024, .f32⟩
  | .hbm, ⟨9, _⟩ => ⟨S1024x5632, .f32⟩
  | .hbm, ⟨10, _⟩ => ⟨S1024x5632, .bf16⟩
  | .hbm, ⟨11, _⟩ => ⟨S2816x1024, .f32⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S32768x1024, .f32⟩
  | .hbm, ⟨18, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S4x256x1024, .bf16⟩
  | .local _ .vmem, ⟨12, _⟩ => ⟨S4x256x2816, .bf16⟩
  | .local _ .vmem, ⟨13, _⟩ => ⟨S4x256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S2x16384x1024 : Shape := ⟨3, ![2, 16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x5632 : Shape := ⟨2, ![1024, 5632]⟩
abbrev S2816x1024 : Shape := ⟨2, ![2816, 1024]⟩
abbrev S2x16384x5632 : Shape := ⟨3, ![2, 16384, 5632]⟩
abbrev S2x16384x2816 : Shape := ⟨3, ![2, 16384, 2816]⟩
abbrev S32768x1024 : Shape := ⟨2, ![32768, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S2x16384x1024, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x1024, .f32⟩
  | .hbm, ⟨19, _⟩ => ⟨S2x16384x1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S1024x5632, .f32⟩
  | .hbm, ⟨24, _⟩ => ⟨S2816x1024, .f32⟩
  | .hbm, ⟨25, _⟩ => ⟨S2x16384x5632, .f32⟩
  | .hbm, ⟨26, _⟩ => ⟨S2x16384x2816, .f32⟩
  | .hbm, ⟨27, _⟩ => ⟨S2x16384x2816, .f32⟩
  | .hbm, ⟨28, _⟩ => ⟨S2x16384x2816, .f32⟩
  | .hbm, ⟨29, _⟩ => ⟨S2x16384x2816, .f32⟩
  | .hbm, ⟨30, _⟩ => ⟨S_, .f32⟩
  | .hbm, ⟨31, _⟩ => ⟨S2x16384x2816, .f32⟩
  | .hbm, ⟨32, _⟩ => ⟨S2x16384x2816, .f32⟩
  | .hbm, ⟨33, _⟩ => ⟨S_, .f32⟩
  | .hbm, ⟨34, _⟩ => ⟨S2x16384x2816, .f32⟩
  | .hbm, ⟨35, _⟩ => ⟨S2x16384x2816, .f32⟩
  | .hbm, ⟨36, _⟩ => ⟨S2x16384x2816, .f32⟩
  | .hbm, ⟨37, _⟩ => ⟨S2x16384x2816, .f32⟩
  | .hbm, ⟨38, _⟩ => ⟨S2x16384x1024, .f32⟩
  | .hbm, ⟨39, _⟩ => ⟨S1024, .f32⟩
  | .hbm, ⟨40, _⟩ => ⟨S2x16384x1024, .f32⟩
  | .hbm, ⟨41, _⟩ => ⟨S_, .f32⟩
  | .hbm, ⟨42, _⟩ => ⟨S2x16384, .f32⟩
  | .hbm, ⟨43, _⟩ => ⟨S2x16384x1, .f32⟩
  | .hbm, ⟨44, _⟩ => ⟨S_, .f32⟩
  | .hbm, ⟨45, _⟩ => ⟨S2x16384x1, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S2x16384x1, .f32⟩
  | .hbm, ⟨51, _⟩ => ⟨S2x16384x1024, .f32⟩
  | .hbm, ⟨52, _⟩ => ⟨S2x16384x1024, .f32⟩
  | .hbm, ⟨53, _⟩ => ⟨S1x1x1024, .f32⟩
  | .hbm, ⟨54, _⟩ => ⟨S2x16384x1024, .f32⟩
  | .hbm, ⟨55, _⟩ => ⟨S2x16384x1024, .f32⟩
  | .hbm, ⟨56, _⟩ => ⟨S_, .f32⟩
  | .hbm, ⟨57, _⟩ => ⟨S2x16384x1024, .f32⟩
  | .hbm, ⟨58, _⟩ => ⟨S2x16384x1024, .f32⟩
  | .hbm, ⟨59, _⟩ => ⟨S2x16384x1024, .f32⟩
  | .hbm, ⟨60, _⟩ => ⟨S1024, .f32⟩
  | .hbm, ⟨61, _⟩ => ⟨S2x16384x1024, .f32⟩
  | .hbm, ⟨62, _⟩ => ⟨S_, .f32⟩
  | .hbm, ⟨63, _⟩ => ⟨S2x16384, .f32⟩
  | .hbm, ⟨64, _⟩ => ⟨S2x16384x1, .f32⟩
  | .hbm, ⟨65, _⟩ => ⟨S_, .f32⟩
  | .hbm, ⟨66, _⟩ => ⟨S2x16384x1, .f32⟩
  | .hbm, ⟨67, _⟩ => ⟨S2x16384x1, .f32⟩
  | .hbm, ⟨68, _⟩ => ⟨S_, .f32⟩
  | .hbm, ⟨69, _⟩ => ⟨S2x16384x1, .f32⟩
  | .hbm, ⟨70, _⟩ => ⟨S2x16384x1, .f32⟩
  | .hbm, ⟨71, _⟩ => ⟨S2x16384x1, .f32⟩
  | .hbm, ⟨72, _⟩ => ⟨S2x16384x1024, .f32⟩
  | .hbm, ⟨73, _⟩ => ⟨S2x16384x1024, .f32⟩
  | .hbm, ⟨74, _⟩ => ⟨S1x1x1024, .f32⟩
  | .hbm, ⟨75, _⟩ => ⟨S2x16384x1024, .f32⟩
  | .hbm, ⟨76, _⟩ => ⟨S2x16384x1024, .f32⟩
  | .hbm, ⟨77, _⟩ => ⟨S32768x1024, .f32⟩
  | .hbm, ⟨78, _⟩ => ⟨S2x16384x1024, .bf16⟩
  | .hbm, ⟨79, _⟩ => ⟨S32768x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x16384x256 : Shape := ⟨3, ![2, 16384, 256]⟩
abbrev S2x16384x512 : Shape := ⟨3, ![2, 16384, 512]⟩
abbrev S1x1024x3072 : Shape := ⟨3, ![1, 1024, 3072]⟩
abbrev S1x3072 : Shape := ⟨2, ![1, 3072]⟩
abbrev S1x256x1024 : Shape := ⟨3, ![1, 256, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S256x256 : Shape := ⟨2, ![256, 256]⟩
abbrev S16x8x16x16x256 : Shape := ⟨5, ![16, 8, 16, 16, 256]⟩
abbrev S16x16x8x16x256 : Shape := ⟨5, ![16, 16, 8, 16, 256]⟩
abbrev S32768x1024 : Shape := ⟨2, ![32768, 1024]⟩
abbrev S32768x512 : Shape := ⟨2, ![32768, 512]⟩
abbrev S1024x3072 : Shape := ⟨2, ![1024, 3072]⟩
abbrev S3072 : Shape := ⟨1, ![3072]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1x16x4x16x256 : Shape := ⟨5, ![1, 16, 4, 16, 256]⟩
abbrev S1024x512 : Shape := ⟨2, ![1024, 512]⟩
abbrev S1x1x1x16x256 : Shape := ⟨5, ![1, 1, 1, 16, 256]⟩
abbrev S16x256 : Shape := ⟨2, ![16, 256]⟩
abbrev S256x512 : Shape := ⟨2, ![256, 512]⟩
abbrev S256 : Shape := ⟨1, ![256]⟩
abbrev S256x1 : Shape := ⟨2, ![256, 1]⟩

abbrev nBuf : Space → Nat
  | .hbm => 39
  | .vmem => 20
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x256, .f32⟩
  | .hbm, ⟨3, _⟩ => ⟨S2x16384x512, .f32⟩
  | .hbm, ⟨4, _⟩ => ⟨S2x16384x512, .f32⟩
  | .hbm, ⟨5, _⟩ => ⟨S1x1024x3072, .f32⟩
  | .hbm, ⟨6, _⟩ => ⟨S1x3072, .f32⟩
  | .hbm, ⟨7, _⟩ => ⟨S1x256x1024, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S256x256, .f32⟩
  | .hbm, ⟨13, _⟩ => ⟨S2x16384x256, .bf16⟩
  | .hbm, ⟨14, _⟩ => ⟨S16x8x16x16x256, .bf16⟩
  | .hbm, ⟨15, _⟩ => ⟨S16x16x8x16x256, .bf16⟩
  | .hbm, ⟨16, _⟩ => ⟨S256x256, .bf16⟩
  | .hbm, ⟨17, _⟩ => ⟨S32768x1024, .f32⟩
  | .hbm, ⟨18, _⟩ => ⟨S2x16384x1024, .bf16⟩
  | .hbm, ⟨19, _⟩ => ⟨S32768x1024, .bf16⟩
  | .hbm, ⟨20, _⟩ => ⟨S2x16384x512, .bf16⟩
  | .hbm, ⟨21, _⟩ => ⟨S32768x512, .bf16⟩
  | .hbm, ⟨22, _⟩ => ⟨S2x16384x512, .bf16⟩
  | .hbm, ⟨23, _⟩ => ⟨S32768x512, .bf16⟩
  | .hbm, ⟨24, _⟩ => ⟨S1024x3072, .f32⟩
  | .hbm, ⟨25, _⟩ => ⟨S1024x3072, .bf16⟩
  | .hbm, ⟨26, _⟩ => ⟨S3072, .f32⟩
  | .hbm, ⟨27, _⟩ => ⟨S1x3072, .f32⟩
  | .hbm, ⟨28, _⟩ => ⟨S256x1024, .f32⟩
  | .hbm, ⟨29, _⟩ => ⟨S256x1024, .bf16⟩
  | .hbm, ⟨30, _⟩ => ⟨S512x1024, .f32⟩
  | .hbm, ⟨31, _⟩ => ⟨S512x1024, .bf16⟩
  | .hbm, ⟨32, _⟩ => ⟨S512x1024, .f32⟩
  | .hbm, ⟨33, _⟩ => ⟨S512x1024, .bf16⟩
  | .hbm, ⟨34, _⟩ => ⟨S1024x1024, .f32⟩
  | .hbm, ⟨35, _⟩ => ⟨S1024x1024, .bf16⟩
  | .hbm, ⟨36, _⟩ => ⟨S1024, .f32⟩
  | .hbm, ⟨37, _⟩ => ⟨S1x1024, .f32⟩
  | .hbm, ⟨38, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x16x4x16x256, .bf16⟩
  | .local _ .vmem, ⟨5, _⟩ => ⟨S1x16x4x16x256, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S256x256, .bf16⟩
  | .local _ .vmem, ⟨11, _⟩ => ⟨S1024x3072, .bf16⟩
  | .local _ .vmem, ⟨12, _⟩ => ⟨S1x3072, .f32⟩
  | .local _ .vmem, ⟨13, _⟩ => ⟨S256x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 5 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x4x16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S2x16384x1024 : Shape := ⟨3, ![2, 16384, 1024]⟩
abbrev S2x16384x256 : Shape := ⟨3, ![2, 16384, 256]⟩
abbrev S2x16384x512 : Shape := ⟨3, ![2, 16384, 512]⟩
abbrev S1x1024x3072 : Shape := ⟨3, ![1, 1024, 3072]⟩
abbrev S1x3072 : Shape := ⟨2, ![1, 3072]⟩
abbrev S1x256x1024 : Shape := ⟨3, ![1, 256, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1024x3072 : Shape := ⟨2, ![1024, 3072]⟩
abbrev S2x16384x3072 : Shape := ⟨3, ![2, 16384, 3072]⟩
abbrev S3072 : Shape := ⟨1, ![3072]⟩
abbrev S1x1x3072 : Shape := ⟨3, ![1, 1, 3072]⟩
abbrev S_ : Shape := ⟨0, ![]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x256, .f32⟩
  | .hbm, ⟨3, _⟩ => ⟨S2x16384x512, .f32⟩
  | .hbm, ⟨4, _⟩ => ⟨S2x16384x512, .f32⟩
  | .hbm, ⟨5, _⟩ => ⟨S1x1024x3072, .f32⟩
  | .hbm, ⟨6, _⟩ => ⟨S1x3072, .f32⟩
  | .hbm, ⟨7, _⟩ => ⟨S1x256x1024, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1024x3072, .f32⟩
  | .hbm, ⟨13, _⟩ => ⟨S2x16384x3072, .f32⟩
  | .hbm, ⟨14, _⟩ => ⟨S3072, .f32⟩
  | .hbm, ⟨15, _⟩ => ⟨S1x1x3072, .f32⟩
  | .hbm, ⟨16, _⟩ => ⟨S2x16384x3072, .f32⟩
  | .hbm, ⟨17, _⟩ => ⟨S2x16384x3072, .f32⟩
  | .hbm, ⟨18, _⟩ => ⟨S2x16384x3072, .f32⟩
  | .hbm, ⟨19, _⟩ => ⟨S2x16384x3072, .f32⟩
  | .hbm, ⟨20, _⟩ => ⟨S_, .f32⟩
  | .hbm, ⟨21, _⟩ => ⟨S2x16384x3072, .f32⟩
  | .hbm, ⟨22, _⟩ => ⟨S2x16384x3072, .f32⟩
  | .hbm, ⟨23, _⟩ => ⟨S_, .f32⟩
  | .hbm, ⟨24, _⟩ => ⟨S2x16384x3072, .f32⟩
  | .hbm, ⟨25, _⟩ => ⟨S2x16384x3072, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S256x1024, .f32⟩
  | .hbm, ⟨30, _⟩ => ⟨S2x16384x1024, .f32⟩
  | .hbm, ⟨31, _⟩ => ⟨S2x16384x1024, .f32⟩
  | .hbm, ⟨32, _⟩ => ⟨S512x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S512x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S1024x1024, .f32⟩
  | .hbm, ⟨41, _⟩ => ⟨S2x16384x1024, .f32⟩
  | .hbm, ⟨42, _⟩ => ⟨S1024, .f32⟩
  | .hbm, ⟨43, _⟩ => ⟨S2x16384x1024, .f32⟩
  | .hbm, ⟨44, _⟩ => ⟨S_, .f32⟩
  | .hbm, ⟨45, _⟩ => ⟨S2x16384, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S2x16384x1, .f32⟩
  | .hbm, ⟨54, _⟩ => ⟨S2x16384x1024, .f32⟩
  | .hbm, ⟨55, _⟩ => ⟨S2x16384x1024, .f32⟩
  | .hbm, ⟨56, _⟩ => ⟨S1x1x1024, .f32⟩
  | .hbm, ⟨57, _⟩ => ⟨S2x16384x1024, .f32⟩
  | .hbm, ⟨58, _⟩ => ⟨S2x16384x1024, .f32⟩
  | .hbm, ⟨59, _⟩ => ⟨S2x16384x1024, .f32⟩
  | .hbm, ⟨60, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Kernel5.lean ====
abbrev S2x256x1024 : Shape := ⟨3, ![2, 256, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S2x256x512 : Shape := ⟨3, ![2, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 9
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S2x256x512, .bf16⟩
  | .hbm, ⟨8, _⟩ => ⟨S2x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2x256x1024 : Shape := ⟨3, ![2, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x1024 : Shape := ⟨2, ![1024, 1024]⟩
abbrev S2x256x512 : Shape := ⟨3, ![2, 256, 512]⟩

abbrev nBuf : Space → Nat
  | .hbm => 26
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S1024x1024, .f32⟩
  | .hbm, ⟨21, _⟩ => ⟨S2x256x1024, .f32⟩
  | .hbm, ⟨22, _⟩ => ⟨S2x256x512, .f32⟩
  | .hbm, ⟨23, _⟩ => ⟨S2x256x512, .f32⟩
  | .hbm, ⟨24, _⟩ => ⟨S2x256x512, .bf16⟩
  | .hbm, ⟨25, _⟩ => ⟨S2x256x512, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Claims.lean ====
/-
The claims that need no reading of values: every program runs to the end with its arguments unchanged, and the
idealized attention differs from the printed one by its two named constants alone.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.ReferenceIdeal.Run
public import Idealize.ShloMosaic.Lib.Quiescent

@[expose] public section

noncomputable section

namespace Cert.Claims

open Idealize.ShloMosaic Idealize.ShloMosaic.TcCoe Idealize.SL.Sem

theorem quiescent_kernel : Cert.quiescent_Kernel (hKernel := Cert.Kernel.Gen.facts) :=
  fun m ρ _ => Cert.Kernel.Gen.frame m ρ

theorem quiescent_kernelIdeal : Cert.quiescent_KernelIdeal (hKernelIdeal := Cert.KernelIdeal.Gen.facts) :=
  fun m ρ _ => Cert.KernelIdeal.Gen.frame m ρ

theorem quiescent_kernel2 : Cert.quiescent_Kernel2 (hKernel2 := Cert.Kernel2.Gen.facts) :=
  fun m ρ _ => Cert.Kernel2.Gen.frame m ρ

theorem quiescent_kernel2Ideal : Cert.quiescent_Kernel2Ideal (hKernel2Ideal := Cert.Kernel2Ideal.Gen.facts) :=
  fun m ρ _ => Cert.Kernel2Ideal.Gen.frame m ρ

/-- The attention's host reference runs to the end and leaves its arguments alone. -/
theorem quiescent_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named constants: the mask, and the factor from natural to binary exponents. -/
theorem preserves_band : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

end Cert.Claims
-- ==== Proof.FfnTiles.lean ====
/-
What one grid step of the feed-forward kernel writes, as four uniform lists of tiles.

A grid step handles 1024 rows as four tiles of 256 rows.  Every tile goes through four stages: the normalised rows, the
gated activations (eleven column chunks), the down projection and the residual sum.  The printed program writes the
stages out tile by tile; here each stage is one function of the tile number, and the printed list of stores is shown to
be the list these functions give.
-/
module

public import proofs.«01_k».proof.Proof.Gen.Kernel2Ideal.Value
public import Idealize.ShloMosaic.Lib.WritesUnit

@[expose] public section

set_option maxRecDepth 16384

noncomputable section

namespace Cert.FfnTiles

open Cert.Kernel2Ideal Cert.Kernel2Ideal.Gen
open Idealize.ShloMosaic Idealize.ShloMosaic.TcCoe Idealize.SL.Sem

variable {F : FTy → Type} [FloatOps F]

theorem rows_in (t : Fin 4) (a : Fin 2) : (![256 * t.val, 0] : Fin 2 → ℕ) a + S256x1024.size a ≤ S1024x1024.size a := by
  revert t a; decide

theorem slot_in (t : Fin 4) (a : Fin 3) : (![t.val, 0, 0] : Fin 3 → ℕ) a + S1x256x1024.size a ≤ S4x256x1024.size a := by
  revert t a; decide

theorem chunk_in (n : Fin 44) (a : Fin 3) :
    (![n.val / 11, 0, 256 * (n.val % 11)] : Fin 3 → ℕ) a + S1x256x256.size a ≤ S4x256x2816.size a := by
  revert n a; decide +kernel

theorem wide_in (t : Fin 4) (a : Fin 3) : (![t.val, 0, 0] : Fin 3 → ℕ) a + S1x256x2816.size a ≤ S4x256x2816.size a := by
  revert t a; decide

theorem gate_in (n : Fin 44) (a : Fin 2) :
    (![0, 256 * (n.val % 11)] : Fin 2 → ℕ) a + S1024x256.size a ≤ S1024x5632.size a := by
  revert n a; decide +kernel

theorem up_in (n : Fin 44) (a : Fin 2) :
    (![0, 2816 + 256 * (n.val % 11)] : Fin 2 → ℕ) a + S1024x256.size a ≤ S1024x5632.size a := by
  revert n a; decide +kernel

theorem gain_in (a : Fin 2) : (![0, 0] : Fin 2 → ℕ) a + S1x1024.size a ≤ S1x1024.size a := by
  revert a; decide

theorem down_in (a : Fin 2) : (![0, 0] : Fin 2 → ℕ) a + S2816x1024.size a ≤ S2816x1024.size a := by
  revert a; decide

section Stages

variable {sg : RefSig}
variable (a1 : Memref sg .tc .vmem S1024x1024 .f32) (h1 : a1.IsWhole)
  (a2 : Memref sg .tc .vmem S1x1024 .f32) (h2 : a2.IsWhole)
  (a3 : Memref sg .tc .vmem S1024x5632 .bf16) (h3 : a3.IsWhole)
  (a4 : Memref sg .tc .vmem S2816x1024 .bf16) (h4 : a4.IsWhole)
  (a5 : Memref sg .tc .vmem S1x1024 .f32) (h5 : a5.IsWhole)
  (a7 : Memref sg .tc .vmem S4x256x1024 .bf16) (a8 : Memref sg .tc .vmem S4x256x2816 .bf16)
  (a9 : Memref sg .tc .vmem S4x256x1024 .f32)
  (x0 : Vec F S1024x1024 .f32) (x1 : Vec F S1x1024 .f32) (x2 : Vec F S1024x5632 .bf16) (x3 : Vec F S2816x1024 .bf16)
  (x4 : Vec F S1x1024 .f32)

/-- The 256 input rows of tile `t`. -/
def rows (t : Fin 4) : Vec F S256x1024 .f32 :=
  View.readAt (Elt F) a1.view (Rect.unit (s := S1024x1024) ![256 * t.val, 0] S256x1024.size (rows_in t)).toLoadRect (h1.unread x0)

/-- The gain of a norm, as the kernel loads it. -/
def gain (a : Memref sg .tc .vmem S1x1024 .f32) (h : a.IsWhole) (x : Vec F S1x1024 .f32) : Vec F S1x1024 .f32 :=
  View.readAt (Elt F) a.view (Rect.unit (s := S1x1024) ![0, 0] S1x1024.size gain_in).toLoadRect (h.unread x)

/-- The normalised rows of the first `j` tiles. -/
def normed (j : ℕ) (hj : j ≤ 4) : List (View.Piece (Elt F) S4x256x1024 .bf16) :=
  View.tilePieces (s := S4x256x1024) S1x256x1024.size (fun t : Fin 4 => ![t.val, 0, 0]) slot_in
    (fun t => k0_pay2 (rows a1 h1 x0 t) (gain a2 h2 x1)) j hj

/-- The normalised rows of tile `t`, read back. -/
def normedBack (t : Fin 4) : Vec F S1x256x1024 .bf16 :=
  a7.view.readCov (normed a1 h1 a2 h2 x0 x1 (t.val + 1) t.isLt)
    (Rect.unit (s := S4x256x1024) ![t.val, 0, 0] S1x256x1024.size (slot_in t)).toLoadRect

/-- The tile a chunk belongs to. -/
def tileOf (n : Fin 44) : Fin 4 := ⟨n.val / 11, by have := n.isLt; omega⟩

/-- The gated activations of one chunk of 256 columns. -/
def chunk (n : Fin 44) : Vec F S1x256x256 .bf16 :=
  k0_pay104 (normedBack a1 h1 a2 h2 a7 x0 x1 (tileOf n))
    (View.readAt (Elt F) a3.view (Rect.unit (s := S1024x5632) ![0, 256 * (n.val % 11)] S1024x256.size (gate_in n)).toLoadRect (h3.unread x2))
    (View.readAt (Elt F) a3.view (Rect.unit (s := S1024x5632) ![0, 2816 + 256 * (n.val % 11)] S1024x256.size (up_in n)).toLoadRect (h3.unread x2))

/-- The first `j` chunks of activations. -/
def acts (j : ℕ) (hj : j ≤ 44) : List (View.Piece (Elt F) S4x256x2816 .bf16) :=
  View.tilePieces (s := S4x256x2816) S1x256x256.size (fun n : Fin 44 => ![n.val / 11, 0, 256 * (n.val % 11)]) chunk_in
    (chunk a1 h1 a2 h2 a3 h3 a7 x0 x1 x2) j hj

/-- The activations of tile `t`, read back at all 2816 columns: by then the next tile's first chunk is stored too. -/
def actsBack (t : Fin 4) : Vec F S1x256x2816 .bf16 :=
  a8.view.readCov (acts a1 h1 a2 h2 a3 h3 a7 x0 x1 x2 (min 44 (11 * t.val + 12)) (Nat.min_le_left _ _))
    (Rect.unit (s := S4x256x2816) ![t.val, 0, 0] S1x256x2816.size (wide_in t)).toLoadRect

/-- The down projections of the first `j` tiles. -/
def downs (j : ℕ) (hj : j ≤ 4) : List (View.Piece (Elt F) S4x256x1024 .f32) :=
  View.tilePieces (s := S4x256x1024) S1x256x1024.size (fun t : Fin 4 => ![t.val, 0, 0]) slot_in
    (fun t => k0_pay124 (k0_pay123 (actsBack a1 h1 a2 h2 a3 h3 a7 a8 x0 x1 x2 t))
      (View.readAt (Elt F) a4.view (Rect.unit (s := S2816x1024) ![0, 0] S2816x1024.size down_in).toLoadRect (h4.unread x3))) j hj

/-- The down projection of tile `t`, read back. -/
def downsBack (t : Fin 4) : Vec F S1x256x1024 .f32 :=
  a9.view.readCov (downs a1 h1 a2 h2 a3 h3 a4 h4 a7 a8 x0 x1 x2 x3 (t.val + 1) t.isLt)
    (Rect.unit (s := S4x256x1024) ![t.val, 0, 0] S1x256x1024.size (slot_in t)).toLoadRect

/-- The output rows of the first `j` tiles. -/
def outs (j : ℕ) (hj : j ≤ 4) : List (View.Piece (Elt F) S1024x1024 .f32) :=
  View.tilePieces (s := S1024x1024) S256x1024.size (fun t : Fin 4 => ![256 * t.val, 0]) rows_in
    (fun t => k0_pay98 (rows a1 h1 x0 t) (downsBack a1 h1 a2 h2 a3 h3 a4 h4 a7 a8 a9 x0 x1 x2 x3 t) (gain a5 h5 x4)) j hj

/-- The printed list of output stores is the uniform one. -/
theorem run_outs (c : Dev nD) (i : grid0.Coords)
    (a1 : Memref sig .tc .vmem S1024x1024 .f32) (h1 : a1.IsWhole) (a2 : Memref sig .tc .vmem S1x1024 .f32) (h2 : a2.IsWhole)
    (a3 : Memref sig .tc .vmem S1024x5632 .bf16) (h3 : a3.IsWhole) (a4 : Memref sig .tc .vmem S2816x1024 .bf16) (h4 : a4.IsWhole)
    (a5 : Memref sig .tc .vmem S1x1024 .f32) (h5 : a5.IsWhole) (a7 : Memref sig .tc .vmem S4x256x1024 .bf16)
    (a8 : Memref sig .tc .vmem S4x256x2816 .bf16) (a9 : Memref sig .tc .vmem S4x256x1024 .f32) (a6 : Memref sig .tc .vmem S1024x1024 .f32) (h6 : a6.IsWhole)
    (h7 : a7.IsWhole) (h8 : a8.IsWhole) (h9 : a9.IsWhole) :
    (kernelRun0_A c i a1 h1 a2 h2 a3 h3 a4 h4 a5 h5 a6 h6 a7 h7 a8 h8 a9 h9 x0 x1 x2 x3 x4).1
      = outs a1 h1 a2 h2 a3 h3 a4 h4 a5 h5 a7 a8 a9 x0 x1 x2 x3 x4 4 (le_refl 4) := by
  sl_kernel_rfl

end Stages

end Cert.FfnTiles
-- ==== Proof.Tiles.lean ====
/-
Reading a buffer back through a list of equal tiles that lie apart, each pair on an axis of its own.
-/
module

public import Idealize.ShloMosaic.Lib.WritesUnit

@[expose] public section

noncomputable section

namespace Cert.Tiles

open Idealize.ShloMosaic

variable {sig : RefSig} {κ : Kind} {sp : Space} {s : Shape} {e : EltTy} {Val : EltTy → Type} {NT : ℕ}

/-- Position `x` of tile `i`, one of the first `j`, reads tile `i`'s payload when every other tile misses it on some axis. -/
theorem read_apart (v : View sig κ sp s e) (f : v.ty.Contents Val) (tsz : Fin s.rank → ℕ) (off : Fin NT → Fin s.rank → ℕ)
    (inb : ∀ i a, off i a + tsz a ≤ s.size a) (P : Fin NT → (⟨s.rank, tsz⟩ : Shape).Idx → Val e)
    (j : ℕ) (hj : j ≤ NT) (y : s.Idx) (i : Fin NT) (hi : i.val < j) (x : (⟨s.rank, tsz⟩ : Shape).Idx)
    (hx : ∀ a, (y a).val = off i a + (x a).val)
    (hdis : ∀ i' : Fin NT, i' ≠ i → ∃ ax, (y ax).val < off i' ax ∨ off i' ax + tsz ax ≤ (y ax).val) :
    v.read Val (v.writes Val f (View.tilePieces tsz off inb P j hj)) y = P i x := by
  induction j with
  | zero => exact absurd hi (Nat.not_lt_zero _)
  | succ j ih =>
    by_cases hn : (⟨j, hj⟩ : Fin NT) = i
    · rw [View.tilePieces_succ]
      subst hn
      exact View.read_writes_cons_unit_of_mem v f (inb ⟨j, hj⟩) (P ⟨j, hj⟩) _ y x rfl hx
    · obtain ⟨ax, hax⟩ := hdis ⟨j, hj⟩ hn
      have hlt : i.val < j := lt_of_le_of_ne (Nat.le_of_lt_succ hi) fun h => hn (Fin.ext h.symm)
      rw [View.tilePieces_succ, View.read_writes_cons_unit_of_not_mem v f (inb ⟨j, hj⟩) (P ⟨j, hj⟩) _ y rfl ax hax]
      exact ih (Nat.le_of_succ_le hj) hlt

end Cert.Tiles
-- ==== Proof.FfnMath.lean ====
/-
The gated feed-forward of one row, over the extended reals, and what the reference computes in those words.
-/
module

public import proofs.«01_k».proof.Proof.Gen.Reference2Ideal.Read
public import Idealize.ShloMosaic.Lib.Pointwise

@[expose] public section

set_option maxRecDepth 16384

noncomputable section

namespace Cert.FfnMath

open Idealize.ShloMosaic Idealize.ShloMosaic.TcCoe Idealize.SL.Sem

/-- Root-mean-square norm of a row, times its gain. -/
def rms (x g : Fin 1024 → EReal) (c : Fin 1024) : EReal :=
  x c * Ideal.rsqrt (Ideal.div (∑ k, x k * x k) (Ideal.ofBits .f32 1149239296#32) + Ideal.ofBits .f32 897988541#32) * g c

/-- The row through a dense layer. -/
def dense {n k : ℕ} (h : Fin n → EReal) (W : Fin n → Fin k → EReal) (d : Fin k) : EReal := ∑ i, h i * W i d

/-- `x / (1 + exp (-x))`, with the product written first. -/
def silu (x : EReal) : EReal := x * Ideal.div 1 (1 + Ideal.exp (-x))

/-- The gate half of the wide projection's columns. -/
def gateCol (d : Fin 2816) : Fin 5632 := ⟨d.val, by have := d.isLt; omega⟩

/-- The other half. -/
def upCol (d : Fin 2816) : Fin 5632 := ⟨2816 + d.val, by have := d.isLt; omega⟩

/-- The gated activations of a normalised row. -/
def gated (h : Fin 1024 → EReal) (W : Fin 1024 → Fin 5632 → EReal) (d : Fin 2816) : EReal :=
  silu (dense h W (gateCol d)) * dense h W (upCol d)

/-- The whole feed-forward of a row: the row plus half the normalised projection. -/
def ffn (x g₁ : Fin 1024 → EReal) (W : Fin 1024 → Fin 5632 → EReal) (D : Fin 2816 → Fin 1024 → EReal) (g₂ : Fin 1024 → EReal)
    (c : Fin 1024) : EReal :=
  x c + Ideal.ofBits .f32 1056964608#32 * rms (dense (gated (rms x g₁) W) D) g₂ c

section Reference

open Cert.Reference2Ideal Cert.Reference2Ideal.Gen Cert.Reference2Ideal.Read

variable (x0 : (⟨S2x16384x1024, .f32⟩ : BufTy).Contents (Elt Ideal)) (x1 : (⟨S1x1024, .f32⟩ : BufTy).Contents (Elt Ideal))
  (x2 : (⟨S1x1024x5632, .f32⟩ : BufTy).Contents (Elt Ideal)) (x3 : (⟨S1x2816x1024, .f32⟩ : BufTy).Contents (Elt Ideal))
  (x4 : (⟨S1x1024, .f32⟩ : BufTy).Contents (Elt Ideal))

/-- The arguments as the rows and tables of `ffn`. -/
abbrev rowOf (b : Fin 2) (s : Fin 16384) (k : Fin 1024) : EReal := x0 (ix3 b s k)
abbrev gainOf (x : (⟨S1x1024, .f32⟩ : BufTy).Contents (Elt Ideal)) (k : Fin 1024) : EReal := x (ix2 0 k)
abbrev wideOf (k : Fin 1024) (d : Fin 5632) : EReal := x2 (ix3 0 k d)
abbrev downOf (d : Fin 2816) (k : Fin 1024) : EReal := x3 (ix3 0 d k)

theorem ref_normed (b : Fin 2) (s : Fin 16384) (k : Fin 1024) :
    val_main_v13 (F := Ideal) x0 x1 (ix3 b s k) = rms (rowOf x0 b s) (gainOf x1) k := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

theorem ref_wide (b : Fin 2) (s : Fin 16384) (d : Fin 5632) :
    val_main_v16 (F := Ideal) x0 x1 x2 (ix3 b s d) = dense (rms (rowOf x0 b s) (gainOf x1)) (wideOf x2) d := by
  have h := ref_normed x0 x1 b s
  unfold val_main_v16
  generalize val_main_v13 (F := Ideal) x0 x1 = y at h ⊢
  pointwise [val_main_v14]
  simp only [h]
  rfl

theorem ref_gated (b : Fin 2) (s : Fin 16384) (d : Fin 2816) :
    val_main_v20 (F := Ideal) x0 x1 x2 (ix3 b s d) = gated (rms (rowOf x0 b s) (gainOf x1)) (wideOf x2) d := by
  have h := ref_wide x0 x1 x2 b s
  unfold val_main_v20 val_main_v19 val_main_call0_v5 val_main_call0_v3 val_main_call0_v1 val_main_call0_v0 val_main_v17 val_main_v18
  generalize val_main_v16 (F := Ideal) x0 x1 x2 = y at h ⊢
  pointwise [val_main_call0_v4, val_main_call0_v2, val_main_call0_cst, val_main_call0_cst_0]
  simp only [h]
  rfl

theorem ref_down (b : Fin 2) (s : Fin 16384) (k : Fin 1024) :
    val_main_v21 (F := Ideal) x0 x1 x2 x3 (ix3 b s k)
      = dense (gated (rms (rowOf x0 b s) (gainOf x1)) (wideOf x2)) (downOf x3) k := by
  have h := ref_gated x0 x1 x2 b s
  unfold val_main_v21
  generalize val_main_v20 (F := Ideal) x0 x1 x2 = y at h ⊢
  pointwise [val_main_v15]
  simp only [h]
  rfl

theorem ref_out (b : Fin 2) (s : Fin 16384) (k : Fin 1024) :
    val_main_v38 (F := Ideal) x0 x1 x2 x3 x4 (ix3 b s k)
      = ffn (rowOf x0 b s) (gainOf x1) (wideOf x2) (downOf x3) (gainOf x4) k := by
  have h := ref_down x0 x1 x2 x3 b s
  unfold val_main_v38 val_main_v37 val_main_v35 val_main_v32 val_main_v31 val_main_v30 val_main_v29 val_main_v27 val_main_v25 val_main_v24 val_main_v23
  generalize val_main_v21 (F := Ideal) x0 x1 x2 x3 = y at h ⊢
  pointwise [val_main_v36, val_main_v34, val_main_v33, val_main_v28, val_main_v26, val_main_v22, val_main_cst_2, val_main_cst_3,
    val_main_cst_4, val_main_cst_5]
  simp only [h]
  rfl

/-- The reference's result: row `r` of the flattened stream is row `r % 16384` of sequence `r / 16384`. -/
theorem ref_flat (r : Fin 32768) (k : Fin 1024) :
    val_main_v39 (F := Ideal) x0 x1 x2 x3 x4 (ix2 r k)
      = ffn (rowOf x0 ⟨r.val / 16384, by have := r.isLt; omega⟩ ⟨r.val % 16384, by omega⟩) (gainOf x1) (wideOf x2) (downOf x3) (gainOf x4) k := by
  have h := ref_out x0 x1 x2 x3 x4
  unfold val_main_v39
  generalize val_main_v38 (F := Ideal) x0 x1 x2 x3 x4 = y at h ⊢
  pointwise
  simp only [h]

end Reference

end Cert.FfnMath
-- ==== Proof.FfnKernel.lean ====
/-
What the feed-forward kernel leaves in its result array: `ffn` of every row.
-/
module

public import proofs.«01_k».proof.Proof.FfnTiles
public import proofs.«01_k».proof.Proof.Tiles
public import proofs.«01_k».proof.Proof.FfnMath
public import Idealize.ShloMosaic.Lib.Pointwise
public import Idealize.ShloMosaic.Lib.Claim
public import Idealize.ShloMosaic.Lib.Pipeline.ValueKit

@[expose] public section

set_option maxRecDepth 16384

noncomputable section

namespace Cert.FfnKernel

open Cert.Kernel2Ideal Cert.Kernel2Ideal.Gen Cert.FfnTiles Cert.FfnMath
open Idealize.ShloMosaic Idealize.ShloMosaic.TcCoe Idealize.SL.Sem
open Idealize.ShloMosaic.Pipeline (Dat)

/-! ## The stages' payloads at an index -/

theorem normed_pay (X : Vec Ideal S256x1024 .f32) (g : Vec Ideal S1x1024 .f32) (u : Fin 1) (r : Fin 256) (c : Fin 1024) :
    k0_pay2 X g (ix3 u r c) = rms (fun k => X (ix2 r k)) (fun k => g (ix2 0 k)) c := by
  pointwise [k0_pay2]
  rfl

theorem chunk_pay (X : Vec Ideal S1x256x1024 .bf16) (A B : Vec Ideal S1024x256 .bf16) (u : Fin 1) (r c : Fin 256) :
    k0_pay104 X A B (ix3 u r c)
      = silu (∑ k, X (ix3 0 r k) * A (ix2 k c)) * ∑ k, X (ix3 0 r k) * B (ix2 k c) := by
  pointwise [k0_pay104]
  unfold silu
  rw [zero_sub]

theorem down_pay (X : Vec Ideal S1x256x2816 .bf16) (A : Vec Ideal S2816x1024 .bf16) (u : Fin 1) (r : Fin 256) (c : Fin 1024) :
    k0_pay124 (k0_pay123 X) A (ix3 u r c) = dense (fun d => X (ix3 0 r d)) (fun d k => A (ix2 d k)) c := by
  pointwise [k0_pay124, k0_pay123]
  rfl

theorem out_pay (X : Vec Ideal S256x1024 .f32) (D : Vec Ideal S1x256x1024 .f32) (g : Vec Ideal S1x1024 .f32) (r : Fin 256) (c : Fin 1024) :
    k0_pay98 X D g (ix2 r c)
      = X (ix2 r c) + Ideal.ofBits .f32 1056964608#32 * rms (fun k => D (ix3 0 r k)) (fun k => g (ix2 0 k)) c := by
  pointwise [k0_pay98]
  rfl

section Stages

variable {sg : RefSig}
variable (a1 : Memref sg .tc .vmem S1024x1024 .f32) (h1 : a1.IsWhole)
  (a2 : Memref sg .tc .vmem S1x1024 .f32) (h2 : a2.IsWhole)
  (a3 : Memref sg .tc .vmem S1024x5632 .bf16) (h3 : a3.IsWhole)
  (a4 : Memref sg .tc .vmem S2816x1024 .bf16) (h4 : a4.IsWhole)
  (a5 : Memref sg .tc .vmem S1x1024 .f32) (h5 : a5.IsWhole)
  (a7 : Memref sg .tc .vmem S4x256x1024 .bf16) (a8 : Memref sg .tc .vmem S4x256x2816 .bf16)
  (a9 : Memref sg .tc .vmem S4x256x1024 .f32)
  (x0 : Vec Ideal S1024x1024 .f32) (x1 : Vec Ideal S1x1024 .f32) (x2 : Vec Ideal S1024x5632 .bf16) (x3 : Vec Ideal S2816x1024 .bf16)
  (x4 : Vec Ideal S1x1024 .f32)

/-! ## What the loads read -/

theorem rows_apply (t : Fin 4) (r : Fin 256) (c : Fin 1024) :
    rows a1 h1 x0 t (ix2 r c) = x0 (ix2 ⟨256 * t.val + r.val, by omega⟩ c) := by
  unfold rows
  rw [View.readAt_eq_ld, Memref.IsWhole.read_unread]
  pointwise

theorem gain_apply (c : Fin 1024) : gain a2 h2 x1 (ix2 0 c) = x1 (ix2 0 c) := by
  unfold gain
  rw [View.readAt_eq_ld, Memref.IsWhole.read_unread]
  pointwise

theorem gate_apply (n : Fin 44) (k : Fin 1024) (c : Fin 256) :
    View.readAt (Elt Ideal) a3.view (Rect.unit (s := S1024x5632) ![0, 256 * (n.val % 11)] S1024x256.size (gate_in n)).toLoadRect (h3.unread x2) (ix2 k c)
      = x2 (ix2 k ⟨256 * (n.val % 11) + c.val, by omega⟩) := by
  rw [View.readAt_eq_ld, Memref.IsWhole.read_unread]
  pointwise

theorem up_apply (n : Fin 44) (k : Fin 1024) (c : Fin 256) :
    View.readAt (Elt Ideal) a3.view (Rect.unit (s := S1024x5632) ![0, 2816 + 256 * (n.val % 11)] S1024x256.size (up_in n)).toLoadRect (h3.unread x2) (ix2 k c)
      = x2 (ix2 k ⟨2816 + 256 * (n.val % 11) + c.val, by omega⟩) := by
  rw [View.readAt_eq_ld, Memref.IsWhole.read_unread]
  pointwise

theorem down_apply (d : Fin 2816) (k : Fin 1024) :
    View.readAt (Elt Ideal) a4.view (Rect.unit (s := S2816x1024) ![0, 0] S2816x1024.size down_in).toLoadRect (h4.unread x3) (ix2 d k)
      = x3 (ix2 d k) := by
  rw [View.readAt_eq_ld, Memref.IsWhole.read_unread]
  pointwise

/-! ## The stages, read back -/

/-- Row `r` of tile `t`, normalised. -/
theorem normedBack_apply (t : Fin 4) (r : Fin 256) (c : Fin 1024) :
    normedBack a1 h1 a2 h2 a7 x0 x1 t (ix3 0 r c)
      = rms (fun k => x0 (ix2 ⟨256 * t.val + r.val, by omega⟩ k)) (fun k => x1 (ix2 0 k)) c := by
  have e := View.read_tilePieces (Val := Elt Ideal) a7.view a7.view.junk S1x256x1024.size (fun t : Fin 4 => ![t.val, 0, 0]) slot_in
    (fun t => k0_pay2 (rows a1 h1 x0 t) (gain a2 h2 x1)) (t.val + 1) t.isLt
    ((Rect.unit (s := S4x256x1024) ![t.val, 0, 0] S1x256x1024.size (slot_in t)).emb (ix3 0 r c)) t (Nat.lt_succ_self _) (ix3 0 r c)
    (fun a => by rw [ValueKit.rect_emb_unit_val]) 0
    (fun i hi => by
      have : i.val ≠ t.val := fun h => hi (Fin.ext h)
      rw [ValueKit.rect_emb_unit_val]
      show t.val + 0 < i.val ∨ i.val + 1 ≤ t.val + 0
      omega)
  refine e.trans ?_
  show k0_pay2 (rows a1 h1 x0 t) (gain a2 h2 x1) (ix3 0 r c) = _
  rw [normed_pay]
  simp only [rows_apply, gain_apply]

/-- Column `d` of the activations of row `r` of tile `t`. -/
theorem actsBack_apply (t : Fin 4) (r : Fin 256) (d : Fin 2816) :
    actsBack a1 h1 a2 h2 a3 h3 a7 a8 x0 x1 x2 t (ix3 0 r d)
      = gated (rms (fun k => x0 (ix2 ⟨256 * t.val + r.val, by omega⟩ k)) (fun k => x1 (ix2 0 k))) (fun k d => x2 (ix2 k d)) d := by
  have hd := d.isLt
  have ht := t.isLt
  let n : Fin 44 := ⟨11 * t.val + d.val / 256, by omega⟩
  let q : Fin 256 := ⟨d.val % 256, by omega⟩
  have hn : n.val = 11 * t.val + d.val / 256 := rfl
  have hdiv : n.val / 11 = t.val := by omega
  have hmod : n.val % 11 = d.val / 256 := by omega
  have htile : tileOf n = t := Fin.ext hdiv
  have hcol : 256 * (n.val % 11) + q.val = d.val := by show _ + d.val % 256 = _; omega
  have e := Tiles.read_apart (Val := Elt Ideal) a8.view a8.view.junk S1x256x256.size
    (fun n : Fin 44 => ![n.val / 11, 0, 256 * (n.val % 11)]) chunk_in
    (chunk a1 h1 a2 h2 a3 h3 a7 x0 x1 x2) (min 44 (11 * t.val + 12)) (Nat.min_le_left _ _)
    ((Rect.unit (s := S4x256x2816) ![t.val, 0, 0] S1x256x2816.size (wide_in t)).emb (ix3 0 r d)) n (by omega) (ix3 0 r q)
    (fun a => by
      match a with
      | ⟨0, _⟩ => rw [ValueKit.rect_emb_unit_val]; show t.val + 0 = n.val / 11 + 0; omega
      | ⟨1, _⟩ => rw [ValueKit.rect_emb_unit_val]; rfl
      | ⟨2, _⟩ => rw [ValueKit.rect_emb_unit_val]; show 0 + d.val = 256 * (n.val % 11) + q.val; omega)
    (fun i hi => by
      have hne : i.val ≠ n.val := fun h => hi (Fin.ext h)
      by_cases hs : i.val / 11 = t.val
      · refine ⟨2, ?_⟩
        rw [ValueKit.rect_emb_unit_val]
        show 0 + d.val < 256 * (i.val % 11) ∨ 256 * (i.val % 11) + 256 ≤ 0 + d.val
        omega
      · refine ⟨0, ?_⟩
        rw [ValueKit.rect_emb_unit_val]
        show t.val + 0 < i.val / 11 ∨ i.val / 11 + 1 ≤ t.val + 0
        omega)
  refine e.trans ?_
  unfold chunk
  rw [chunk_pay, htile]
  have hg : (⟨256 * (n.val % 11) + q.val, by omega⟩ : Fin 5632) = gateCol d := Fin.ext hcol
  have hu : (⟨2816 + 256 * (n.val % 11) + q.val, by omega⟩ : Fin 5632) = upCol d := Fin.ext (by
    show 2816 + 256 * (n.val % 11) + q.val = 2816 + d.val
    omega)
  unfold gated dense
  refine congrArg₂ (· * ·) (congrArg silu (Finset.sum_congr rfl fun k _ => ?_)) (Finset.sum_congr rfl fun k _ => ?_)
  · exact congrArg₂ (· * ·) (normedBack_apply a1 h1 a2 h2 a7 x0 x1 t r k) ((gate_apply a3 h3 x2 n k q).trans (by rw [hg]))
  · exact congrArg₂ (· * ·) (normedBack_apply a1 h1 a2 h2 a7 x0 x1 t r k) ((up_apply a3 h3 x2 n k q).trans (by rw [hu]))

/-- Column `c` of the down projection of row `r` of tile `t`. -/
theorem downsBack_apply (t : Fin 4) (r : Fin 256) (c : Fin 1024) :
    downsBack a1 h1 a2 h2 a3 h3 a4 h4 a7 a8 a9 x0 x1 x2 x3 t (ix3 0 r c)
      = dense (gated (rms (fun k => x0 (ix2 ⟨256 * t.val + r.val, by omega⟩ k)) (fun k => x1 (ix2 0 k))) (fun k d => x2 (ix2 k d)))
          (fun d k => x3 (ix2 d k)) c := by
  have e := View.read_tilePieces (Val := Elt Ideal) a9.view a9.view.junk S1x256x1024.size (fun t : Fin 4 => ![t.val, 0, 0]) slot_in
    (fun t => k0_pay124 (k0_pay123 (actsBack a1 h1 a2 h2 a3 h3 a7 a8 x0 x1 x2 t))
      (View.readAt (Elt Ideal) a4.view (Rect.unit (s := S2816x1024) ![0, 0] S2816x1024.size down_in).toLoadRect (h4.unread x3)))
    (t.val + 1) t.isLt
    ((Rect.unit (s := S4x256x1024) ![t.val, 0, 0] S1x256x1024.size (slot_in t)).emb (ix3 0 r c)) t (Nat.lt_succ_self _) (ix3 0 r c)
    (fun a => by rw [ValueKit.rect_emb_unit_val]) 0
    (fun i hi => by
      have : i.val ≠ t.val := fun h => hi (Fin.ext h)
      rw [ValueKit.rect_emb_unit_val]
      show t.val + 0 < i.val ∨ i.val + 1 ≤ t.val + 0
      omega)
  refine e.trans ?_
  show k0_pay124 (k0_pay123 (actsBack a1 h1 a2 h2 a3 h3 a7 a8 x0 x1 x2 t)) _ (ix3 0 r c) = _
  rw [down_pay]
  unfold dense
  exact Finset.sum_congr rfl fun d _ => congrArg₂ (· * ·) (actsBack_apply a1 h1 a2 h2 a3 h3 a7 a8 x0 x1 x2 t r d)
    (down_apply a4 h4 x3 d c)

/-- Any index of the output block, read through the printed list of stores. -/
theorem outs_apply (v : View sg .tc .vmem S1024x1024 .f32) (f : v.ty.Contents (Elt Ideal)) (r c : Fin 1024) :
    v.read (Elt Ideal) (v.writes (Elt Ideal) f (outs a1 h1 a2 h2 a3 h3 a4 h4 a5 h5 a7 a8 a9 x0 x1 x2 x3 x4 4 (le_refl 4))) (ix2 r c)
      = ffn (fun k => x0 (ix2 r k)) (fun k => x1 (ix2 0 k)) (fun k d => x2 (ix2 k d)) (fun d k => x3 (ix2 d k)) (fun k => x4 (ix2 0 k)) c := by
  have hr := r.isLt
  let t : Fin 4 := ⟨r.val / 256, by omega⟩
  let p : Fin 256 := ⟨r.val % 256, by omega⟩
  have hrow : 256 * t.val + p.val = r.val := by show 256 * (r.val / 256) + r.val % 256 = r.val; omega
  have e := View.read_tilePieces (Val := Elt Ideal) v f S256x1024.size (fun t : Fin 4 => ![256 * t.val, 0]) rows_in
    (fun t => k0_pay98 (rows a1 h1 x0 t) (downsBack a1 h1 a2 h2 a3 h3 a4 h4 a7 a8 a9 x0 x1 x2 x3 t) (gain a5 h5 x4))
    4 (le_refl 4) (ix2 r c) t t.isLt (ix2 p c)
    (Fin.forall_fin_two.mpr ⟨hrow.symm, (Nat.zero_add _).symm⟩) 0
    (fun i hi => by
      have : i.val ≠ t.val := fun h => hi (Fin.ext h)
      show r.val < 256 * i.val ∨ 256 * i.val + 256 ≤ r.val
      have : t.val = r.val / 256 := rfl
      omega)
  refine e.trans ?_
  show k0_pay98 (rows a1 h1 x0 t) (downsBack a1 h1 a2 h2 a3 h3 a4 h4 a7 a8 a9 x0 x1 x2 x3 t) (gain a5 h5 x4) (ix2 p c) = _
  have hx : (⟨256 * t.val + p.val, by omega⟩ : Fin 1024) = r := Fin.ext hrow
  rw [out_pay]
  simp only [rows_apply, downsBack_apply, gain_apply, hx]
  rfl

end Stages

end Cert.FfnKernel
-- ==== Proof.FfnArray.lean ====
/-
The feed-forward kernel's result array as one function of its arguments, and its claims.
-/
module

public import proofs.«01_k».proof.Defs
public import proofs.«01_k».proof.Proof.FfnKernel
public import proofs.«01_k».proof.Proof.Gen.Kernel2Ideal.Value
public import proofs.«01_k».proof.Proof.Gen.Reference2Ideal.Run
public import Idealize.ShloMosaic.Lib.Quiescent

@[expose] public section

set_option maxRecDepth 16384

noncomputable section

namespace Cert.FfnArray

open Cert.Kernel2Ideal Cert.Kernel2Ideal.Gen Cert.FfnTiles Cert.FfnMath
open Idealize.ShloMosaic Idealize.ShloMosaic.TcCoe Idealize.SL.Sem
open Idealize.ShloMosaic.Pipeline (Dat)

/-- Each row of the flattened stream put through the feed-forward. -/
def stream (x0 : Vec Ideal S2x16384x1024 .f32) (x1 : Vec Ideal S1x1024 .f32) (x2 : Vec Ideal S1x1024x5632 .f32)
    (x3 : Vec Ideal S1x2816x1024 .f32) (x4 : Vec Ideal S1x1024 .f32) : Vec Ideal S32768x1024 .f32 := fun i =>
  ffn (rowOf x0 ⟨(i 0).val / 16384, by have : (i 0).val < 32768 := (i 0).isLt; omega⟩ ⟨(i 0).val % 16384, by omega⟩)
    (gainOf x1) (wideOf x2) (downOf x3) (gainOf x4) (i 1)

variable (m : (ℓ : Loc nD τ sig) → Buf (Elt Ideal) ℓ) (ρ : Dev nD → PrngReg)

/-- What the body leaves at index `(r, k)` of the output block, from the blocks of the inputs. -/
theorem after_apply (c : Dev nD) (t : Fin cfg0.N) (r k : Fin 1024) :
    outsAt0 m c t (ix2 r k)
      = ffn (fun j => iblk m c 0 t (ix2 r j)) (fun j => iblk m c 1 t (ix2 0 j)) (fun j d => iblk m c 2 t (ix2 j d))
          (fun d j => iblk m c 3 t (ix2 d j)) (fun j => iblk m c 4 t (ix2 0 j)) k := by
  unfold outsAt0 out0_A_5
  rw [run_outs]
  exact FfnKernel.outs_apply ..

/-! ## The arrays at the region's entry -/

theorem entry_rows (c : Dev nD) (r : Fin 32768) (k : Fin 1024) :
    V m c main_v0 (ix2 r k) = rowOf (m ((c : Thread nD τ).loc main_arg0)) ⟨r.val / 16384, by omega⟩ ⟨r.val % 16384, by omega⟩ k := by
  entry_read
  pointwise

theorem entry_gain (c : Dev nD) (k : Fin 1024) : V m c main_v2 (ix2 0 k) = gainOf (m ((c : Thread nD τ).loc main_arg1)) k := by
  entry_read
  pointwise

theorem entry_wide (c : Dev nD) (k : Fin 1024) (d : Fin 5632) :
    V m c main_v4 (ix2 k d) = wideOf (m ((c : Thread nD τ).loc main_arg2)) k d := by
  entry_read
  pointwise

theorem entry_down (c : Dev nD) (d : Fin 2816) (k : Fin 1024) :
    V m c main_v6 (ix2 d k) = downOf (m ((c : Thread nD τ).loc main_arg3)) d k := by
  entry_read
  pointwise

theorem entry_last (c : Dev nD) (k : Fin 1024) : V m c main_v8 (ix2 0 k) = gainOf (m ((c : Thread nD τ).loc main_arg4)) k := by
  entry_read
  pointwise

/-! ## The windows' block indices -/

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![(grid0.coords t 0).val, 0] :=
  (by decide +kernel : ∀ t : Fin grid0.N, win0_5.index t = ![(grid0.coords t 0).val, 0])

theorem point_lt : ∀ t : Fin cfg0.N, (grid0.coords t 0).val < 32 :=
  (by decide +kernel : ∀ t : Fin grid0.N, (grid0.coords t 0).val < 32)

theorem blk0 (c : Dev nD) (t : Fin cfg0.N) (r k : Fin 1024) :
    iblk m c 0 t (ix2 r k) = V m c main_v0 (ix2 ⟨(grid0.coords t 0).val * 1024 + r.val, by have := point_lt t; omega⟩ k) := by
  blk_simp [iblk]
  refine congrArg (V m c main_v0) ?_
  blk_ext [e0]

theorem blk1 (c : Dev nD) (t : Fin cfg0.N) (k : Fin 1024) : iblk m c 1 t (ix2 0 k) = V m c main_v2 (ix2 0 k) := by
  blk_simp [iblk]
  refine congrArg (V m c main_v2) ?_
  blk_ext [e1]

theorem blk2 (c : Dev nD) (t : Fin cfg0.N) (k : Fin 1024) (d : Fin 5632) : iblk m c 2 t (ix2 k d) = V m c main_v4 (ix2 k d) := by
  blk_simp [iblk]
  refine congrArg (V m c main_v4) ?_
  blk_ext [e2]

theorem blk3 (c : Dev nD) (t : Fin cfg0.N) (d : Fin 2816) (k : Fin 1024) : iblk m c 3 t (ix2 d k) = V m c main_v6 (ix2 d k) := by
  blk_simp [iblk]
  refine congrArg (V m c main_v6) ?_
  blk_ext [e3]

theorem blk4 (c : Dev nD) (t : Fin cfg0.N) (k : Fin 1024) : iblk m c 4 t (ix2 0 k) = V m c main_v8 (ix2 0 k) := by
  blk_simp [iblk]
  refine congrArg (V m c main_v8) ?_
  blk_ext [e4]

theorem place (t : Fin cfg0.N) (r k : Fin 1024) :
    (win0_5.blk t).view.emb (ix2 r k) = ix2 ⟨(grid0.coords t 0).val * 1024 + r.val, by have := point_lt t; omega⟩ k := by
  blk_ext [e5]

/-- The result array after the run. -/
theorem final (c : Dev nD) :
    (dats m 0 c).arrAt 5 cfg0.N
      = stream (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  obtain ⟨r, k, rfl⟩ : ∃ r k : Fin 1024, y = ix2 r k := ⟨y 0, y 1, funext fun a => by fin_cases a <;> rfl⟩
  rw [place, after_apply]
  have p0 := fun j => (blk0 m c t r j).trans (entry_rows m c _ j)
  have p1 := fun j => (blk1 m c t j).trans (entry_gain m c j)
  have p2 := fun j d => (blk2 m c t j d).trans (entry_wide m c j d)
  have p3 := fun d j => (blk3 m c t d j).trans (entry_down m c d j)
  have p4 := fun j => (blk4 m c t j).trans (entry_last m c j)
  simp only [p0, p1, p2, p3, p4]
  rfl

/-- The reference's result is the same function of its arguments. -/
theorem ref_stream (x0 : Vec Ideal S2x16384x1024 .f32) (x1 : Vec Ideal S1x1024 .f32) (x2 : Vec Ideal S1x1024x5632 .f32)
    (x3 : Vec Ideal S1x2816x1024 .f32) (x4 : Vec Ideal S1x1024 .f32) :
    Cert.Reference2Ideal.Read.val_main_v39 (F := Ideal) x0 x1 x2 x3 x4 = stream x0 x1 x2 x3 x4 := by
  funext i
  obtain ⟨r, k, rfl⟩ : ∃ (r : Fin 32768) (k : Fin 1024), i = ix2 r k := ⟨i 0, i 1, funext fun a => by fin_cases a <;> rfl⟩
  exact ref_flat x0 x1 x2 x3 x4 r k

/-! ## The claims -/

/-- The host reference runs to the end and leaves its arguments alone. -/
theorem quiescent_reference : Cert.quiescent_Reference2Ideal (hReference2Ideal := Cert.Reference2Ideal.Gen.facts) :=
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- Kernel and reference leave the same result. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => stream (m ((c : Thread nD τ).loc main_arg0)) (m ((c : Thread nD τ).loc main_arg1))
    (m ((c : Thread nD τ).loc main_arg2)) (m ((c : Thread nD τ).loc main_arg3)) (m ((c : Thread nD τ).loc main_arg4)), ?_, ?_⟩
  · exact (θ_run defs _ _).mono (fun r h c => ⟨(h c).1.trans (final m c), (h c).2⟩) (Value.run_blocks m ρ)
  · refine (θ_run Cert.Reference2Ideal.defs _ _).mono (fun r h c => ⟨(h c).1.trans ?_, (h c).2⟩)
      (Cert.Reference2Ideal.Value.run (F := Ideal) m' ρ')
    obtain ⟨g0, g1, g2, g3, g4⟩ := hagree c
    rw [Cert.Reference2Ideal.Read.val_main_v39_eq, g0, g1, g2, g3, g4]
    exact ref_stream ..

end Cert.FfnArray
-- ==== Proof.BandTiles.lean ====
/-
What one grid step of the sliding-window attention writes, as one uniform list of tiles.

A grid step handles 4096 positions as 32 blocks of 128, each for four query heads.  Tile `n` is block `n / 4`, head
`n % 4`.  A block reads the keys and values of the block before it and its own: one stretch of 256 rows, except that
the first block of a step takes the rows before it from a window of its own.
-/
module

public import proofs.«01_k».proof.Proof.Gen.KernelIdeal.Value
public import Idealize.ShloMosaic.Lib.WritesUnit

@[expose] public section

set_option maxRecDepth 16384

noncomputable section

namespace Cert.BandTiles

open Cert.KernelIdeal Cert.KernelIdeal.Gen
open Idealize.ShloMosaic Idealize.ShloMosaic.TcCoe Idealize.SL.Sem

variable {F : FTy → Type} [FloatOps F] [Named F]

theorem tile_in (n : Fin 128) (a : Fin 3) :
    (![0, 128 * (n.val / 4), 128 * (n.val % 4)] : Fin 3 → ℕ) a + S1x128x128.size a ≤ S1x4096x512.size a := by
  revert n a; decide +kernel

theorem own_in (n : Fin 128) (a : Fin 3) :
    (![0, 0, 128 * (n.val % 4 / 2)] : Fin 3 → ℕ) a + S1x128x128.size a ≤ S1x4096x256.size a := by
  revert n a; decide +kernel

theorem prev_in (n : Fin 128) (a : Fin 3) :
    (![0, 0, 128 * (n.val % 4 / 2)] : Fin 3 → ℕ) a + S1x128x128.size a ≤ S1x128x256.size a := by
  revert n a; decide +kernel

theorem pair_in (n : Fin 128) (a : Fin 3) :
    (![0, 128 * (n.val / 4 - 1), 128 * (n.val % 4 / 2)] : Fin 3 → ℕ) a + S1x256x128.size a ≤ S1x4096x256.size a := by
  revert n a; decide +kernel

theorem sink_in (n : Fin 128) (a : Fin 1) : (![n.val % 4] : Fin 1 → ℕ) a + S1.size a ≤ S4.size a := by
  revert n a; decide +kernel

section Tiles

variable (i : grid0.Coords)
  (a2 : Memref sig .tc .smem S4 .f32) (h2 : a2.IsWhole) (a3 : Memref sig .tc .vmem S1x4096x512 .bf16) (h3 : a3.IsWhole)
  (a4 : Memref sig .tc .vmem S1x4096x256 .bf16) (h4 : a4.IsWhole)
  (a5 : Memref sig .tc .vmem S1x4096x256 .bf16) (h5 : a5.IsWhole)
  (a6 : Memref sig .tc .vmem S1x128x256 .bf16) (h6 : a6.IsWhole)
  (a7 : Memref sig .tc .vmem S1x128x256 .bf16) (h7 : a7.IsWhole)
  (x0 : Vec F S4 .f32) (x1 : Vec F S1x4096x512 .bf16) (x2 : Vec F S1x4096x256 .bf16) (x3 : Vec F S1x4096x256 .bf16)
  (x4 : Vec F S1x128x256 .bf16) (x5 : Vec F S1x128x256 .bf16)

/-- The queries of tile `n`. -/
def query (n : Fin 128) : Vec F S1x128x128 .bf16 :=
  View.readAt (Elt F) a3.view (Rect.unit (s := S1x4096x512) ![0, 128 * (n.val / 4), 128 * (n.val % 4)] S1x128x128.size (tile_in n)).toLoadRect (h3.unread x1)

/-- The first block's own keys or values. -/
def own (a : Memref sig .tc .vmem S1x4096x256 .bf16) (h : a.IsWhole) (x : Vec F S1x4096x256 .bf16) (n : Fin 128) : Vec F S1x128x128 .bf16 :=
  View.readAt (Elt F) a.view (Rect.unit (s := S1x4096x256) ![0, 0, 128 * (n.val % 4 / 2)] S1x128x128.size (own_in n)).toLoadRect (h.unread x)

/-- The keys or values of the block before the step. -/
def prev (a : Memref sig .tc .vmem S1x128x256 .bf16) (h : a.IsWhole) (x : Vec F S1x128x256 .bf16) (n : Fin 128) : Vec F S1x128x128 .bf16 :=
  View.readAt (Elt F) a.view (Rect.unit (s := S1x128x256) ![0, 0, 128 * (n.val % 4 / 2)] S1x128x128.size (prev_in n)).toLoadRect (h.unread x)

/-- A later block's keys or values with those of the block before it. -/
def pair (a : Memref sig .tc .vmem S1x4096x256 .bf16) (h : a.IsWhole) (x : Vec F S1x4096x256 .bf16) (n : Fin 128) : Vec F S1x256x128 .bf16 :=
  View.readAt (Elt F) a.view (Rect.unit (s := S1x4096x256) ![0, 128 * (n.val / 4 - 1), 128 * (n.val % 4 / 2)] S1x256x128.size (pair_in n)).toLoadRect (h.unread x)

/-- The sink of tile `n`'s head. -/
def sink (n : Fin 128) : Elt F .f32 :=
  View.readAt (Elt F) a2.view (Rect.unit (s := S4) ![n.val % 4] S1.size (sink_in n)).toLoadRect (h2.unread x0) (Shape.Idx.first (show 0 < S1.numel by decide))

/-- What tile `n` holds. -/
def tile (n : Fin 128) : Vec F S1x128x128 .bf16 :=
  if n.val / 4 = 0 then
    k0_pay24 (k0_pay3 i) (k0_pay4 (prev a6 h6 x4 n) (own a4 h4 x2 n)) (k0_pay5 (prev a7 h7 x5 n) (own a5 h5 x3 n))
      (query a3 h3 x1 n) (sink a2 h2 x0 n)
  else
    k0_pay40 k0_pay2 (pair a4 h4 x2 n) (pair a5 h5 x3 n) (query a3 h3 x1 n) (sink a2 h2 x0 n)

/-- The first `j` tiles. -/
def tiles (j : ℕ) (hj : j ≤ 128) : List (View.Piece (Elt F) S1x4096x512 .bf16) :=
  View.tilePieces (s := S1x4096x512) S1x128x128.size (fun n : Fin 128 => ![0, 128 * (n.val / 4), 128 * (n.val % 4)]) tile_in
    (tile i a2 h2 a3 h3 a4 h4 a5 h5 a6 h6 a7 h7 x0 x1 x2 x3 x4 x5) j hj

/-- The printed list of stores is the uniform one. -/
theorem run_tiles (c : Dev nD) (a8 : Memref sig .tc .vmem S1x4096x512 .bf16) (h8 : a8.IsWhole) :
    (kernelRun0_A c i a2 h2 a3 h3 a4 h4 a5 h5 a6 h6 a7 h7 a8 h8 x0 x1 x2 x3 x4 x5).1
      = tiles i a2 h2 a3 h3 a4 h4 a5 h5 a6 h6 a7 h7 x0 x1 x2 x3 x4 x5 128 (le_refl 128) := by
  sl_kernel_rfl

end Tiles

end Cert.BandTiles
-- ==== Proof.BandMath.lean ====
/-
Attention of one query over a stretch of 256 keys with a sink, in natural and in binary exponents.
-/
module

public import Idealize.ShloMosaic.PureOps.Ideal

@[expose] public section

noncomputable section

namespace Cert.BandMath

open Idealize.ShloMosaic

/-- The largest score. -/
def top (l : Fin 256 → EReal) : EReal := Finset.univ.fold max ⊥ l

/-- The weighted mean of the values `v` under scores `l`, a sink of score `s` sharing the weight. -/
def att (l : Fin 256 → EReal) (s : EReal) (v : Fin 256 → EReal) : EReal :=
  Ideal.div (∑ j, Ideal.exp (l j - max (top l) s) * v j)
    ((∑ j, Ideal.exp (l j - max (top l) s)) + Ideal.exp (s - max (top l) s))

/-- The same in powers of two. -/
def att₂ (l : Fin 256 → EReal) (s : EReal) (v : Fin 256 → EReal) : EReal :=
  Ideal.div (∑ j, Ideal.exp2 (l j - max (top l) s) * v j)
    ((∑ j, Ideal.exp2 (l j - max (top l) s)) + Ideal.exp2 (s - max (top l) s))

/-- From natural to binary exponents. -/
def log2e : EReal := (((Real.log 2)⁻¹ : ℝ) : EReal)

theorem log2e_pos : (0 : ℝ) < (Real.log 2)⁻¹ := inv_pos.mpr (Real.log_pos (by norm_num))

theorem log2e_nonneg : (0 : EReal) ≤ log2e := EReal.coe_nonneg.mpr log2e_pos.le

theorem bot_mul_log2e : (⊥ : EReal) * log2e = ⊥ := EReal.bot_mul_coe_of_pos log2e_pos

theorem exp2_mul (x : EReal) : Ideal.exp2 (x * log2e) = Ideal.exp x := by
  induction x with
  | bot => rw [bot_mul_log2e]; rfl
  | top => rw [log2e, EReal.top_mul_coe_of_pos log2e_pos]; rfl
  | coe x =>
    rw [log2e, ← EReal.coe_mul]
    show ((Real.rpow 2 (x * (Real.log 2)⁻¹) : ℝ) : EReal) = ((Real.exp x : ℝ) : EReal)
    have h2 : Real.log 2 ≠ 0 := (Real.log_pos (by norm_num)).ne'
    have h : Real.rpow 2 (x * (Real.log 2)⁻¹) = Real.exp x := by
      show (2 : ℝ) ^ (x * (Real.log 2)⁻¹) = _
      rw [Real.rpow_def_of_pos (by norm_num)]
      congr 1
      field_simp
    rw [h]

theorem mul_sub (x y : EReal) : (x - y) * log2e = x * log2e - y * log2e := by
  rw [sub_eq_add_neg, EReal.right_distrib_of_nonneg_of_ne_top log2e_nonneg (EReal.coe_ne_top _), EReal.neg_mul, ← sub_eq_add_neg]

theorem mul_mono : Monotone fun x : EReal => x * log2e := fun _ _ h => mul_le_mul_of_nonneg_right h log2e_nonneg

theorem mul_max (x y : EReal) : max x y * log2e = max (x * log2e) (y * log2e) := mul_mono.map_max

theorem top_mul (l : Fin 256 → EReal) : top (fun j => l j * log2e) = top l * log2e := by
  have h := Finset.fold_hom (s := (Finset.univ : Finset (Fin 256))) (op := max) (op' := max) (f := l) (b := (⊥ : EReal))
    (m := fun x : EReal => x * log2e) mul_max
  simp only [bot_mul_log2e] at h
  exact h

/-- Scores and sink scaled by `log2e`: powers of two give the natural exponential's attention. -/
theorem att₂_scaled (l : Fin 256 → EReal) (s : EReal) (v : Fin 256 → EReal) :
    att₂ (fun j => l j * log2e) (s * log2e) v = att l s v := by
  unfold att₂ att
  simp only [top_mul, ← mul_max, ← mul_sub, exp2_mul]

/-- Values under a score of minus infinity do not count. -/
theorem att_congr (l : Fin 256 → EReal) (s : EReal) (v v' : Fin 256 → EReal) (h : ∀ j, l j = ⊥ ∨ v j = v' j) :
    att l s v = att l s v' := by
  unfold att
  refine congrArg (fun t => Ideal.div t _) (Finset.sum_congr rfl fun j _ => ?_)
  rcases h j with h | h
  · have : l j - max (top l) s = ⊥ := by rw [h, sub_eq_add_neg, EReal.bot_add]
    rw [this]
    show (0 : EReal) * _ = (0 : EReal) * _
    rw [zero_mul, zero_mul]
  · rw [h]

/-- A positive finite factor moves out of a sum. -/
theorem sum_mul {n : ℕ} (f : Fin n → EReal) (a : EReal) (ha : 0 ≤ a) (ha' : a ≠ ⊤) : (∑ j, f j) * a = ∑ j, f j * a := by
  classical
  induction (Finset.univ : Finset (Fin n)) using Finset.induction_on with
  | empty => rw [Finset.sum_empty, Finset.sum_empty, zero_mul]
  | insert j t hj ih =>
    rw [Finset.sum_insert hj, Finset.sum_insert hj, EReal.right_distrib_of_nonneg_of_ne_top ha ha', ih]

/-! ## The sliding window -/

/-- The reciprocal of the square root of the head width. -/
def scale : EReal := Ideal.rsqrt (Ideal.ofBits .f32 1124073472#32)

theorem scale_eq : scale = (((Real.sqrt 128)⁻¹ : ℝ) : EReal) := by
  have h : Ideal.ofBits .f32 1124073472#32 = ((128 : ℝ) : EReal) := by
    simp [Ideal.ofBits, Ideal.ieee, -EReal.coe_mul]; norm_num
  unfold scale
  rw [h]
  show (if (128 : ℝ) < 0 then ⊥ else if (128 : ℝ) = 0 then ⊤ else (((Real.sqrt 128)⁻¹ : ℝ) : EReal)) = _
  rw [if_neg (by norm_num), if_neg (by norm_num)]

/-- The host's quotient of the scale by the logarithm of two. -/
theorem scale_div : Ideal.div scale (Ideal.log (Ideal.ofBits .f32 1073741824#32)) = scale * log2e := by
  have h : Ideal.ofBits .f32 1073741824#32 = ((2 : ℝ) : EReal) := by
    simp [Ideal.ofBits, Ideal.ieee, -EReal.coe_mul]; norm_num
  have hl : Ideal.log ((2 : ℝ) : EReal) = ((Real.log 2 : ℝ) : EReal) := by
    show (if (2 : ℝ) ≤ 0 then ⊥ else ((Real.log 2 : ℝ) : EReal)) = _
    rw [if_neg (by norm_num)]
  have h2 : ((Real.log 2 : ℝ) : EReal) ≠ 0 := fun h => (Real.log_pos (by norm_num : (1 : ℝ) < 2)).ne' (EReal.coe_eq_zero.mp h)
  rw [h, hl]
  unfold Ideal.div log2e
  rw [if_neg h2, EReal.coe_inv]

/-- Scaled queries give the scaled score. -/
theorem score_scaled (q k : Fin 128 → EReal) :
    ∑ x, (q x * (scale * log2e)) * k x = (∑ x, q x * k x) * scale * log2e := by
  have hs : (0 : EReal) ≤ scale ∧ scale ≠ ⊤ := by
    rw [scale_eq]
    exact ⟨EReal.coe_nonneg.mpr (inv_nonneg.mpr (Real.sqrt_nonneg _)), EReal.coe_ne_top _⟩
  rw [sum_mul _ _ hs.1 hs.2, sum_mul _ _ log2e_nonneg (EReal.coe_ne_top _)]
  refine Finset.sum_congr rfl fun x _ => ?_
  rw [mul_right_comm, mul_assoc (q x * k x)]

/-- Query `q` of block `n` sees column `j` of the stretch beginning one block earlier. -/
abbrev Near (n : ℕ) (q : Fin 128) (j : Fin 256) : Prop := (j.val ≤ q.val + 128 ∧ q.val < j.val) ∧ (0 < n ∨ 128 ≤ j.val)

/-- The position of column `j` in block `n`'s stretch (of no meaning where nothing is there to see). -/
def keyRow (n : Fin 128) (j : Fin 256) : Fin 16384 := ⟨n.val * 128 + j.val - 128, by omega⟩

/-- Attention of query `q` of block `n`, head `h`, at the head's column `d`. -/
def head (Q : Fin 128 → EReal) (K V : Fin 16384 → Fin 256 → EReal) (s : EReal) (n : Fin 128) (q : Fin 128) (h : Fin 4) (d : Fin 128) : EReal :=
  att (fun j => if Near n.val q j then (∑ x : Fin 128, Q x * K (keyRow n j) ⟨128 * (h.val / 2) + x.val, by omega⟩) * scale else ⊥) s
    (fun j => V (keyRow n j) ⟨128 * (h.val / 2) + d.val, by omega⟩)

/-- Attention of position `p` at column `w`: head `w / 128`, its column `w % 128`. -/
def window (Q : Fin 16384 → Fin 512 → EReal) (K V : Fin 16384 → Fin 256 → EReal) (S : Fin 4 → EReal) (p : Fin 16384) (w : Fin 512) : EReal :=
  head (fun x => Q p ⟨128 * (w.val / 128) + x.val, by omega⟩) K V (S ⟨w.val / 128, by omega⟩) ⟨p.val / 128, by omega⟩
    ⟨p.val % 128, by omega⟩ ⟨w.val / 128, by omega⟩ ⟨w.val % 128, by omega⟩

/-- Binary exponents over scaled queries, and any keys and values that are right where they are seen. -/
theorem head_of (Q : Fin 128 → EReal) (K V : Fin 16384 → Fin 256 → EReal) (s : EReal) (n : Fin 128) (q : Fin 128) (h : Fin 4) (d : Fin 128)
    (kk vv : Fin 256 → Fin 128 → EReal) (P : Fin 256 → Prop) [DecidablePred P] (hP : ∀ j, P j ↔ Near n.val q j)
    (hk : ∀ j, Near n.val q j → ∀ x, kk j x = K (keyRow n j) ⟨128 * (h.val / 2) + x.val, by omega⟩)
    (hv : ∀ j, Near n.val q j → ∀ x, vv j x = V (keyRow n j) ⟨128 * (h.val / 2) + x.val, by omega⟩) :
    att₂ (fun j => if P j then ∑ x, (Q x * (scale * log2e)) * kk j x else ⊥) (s * log2e) (fun j => vv j d) = head Q K V s n q h d := by
  unfold head
  refine Eq.trans ?_ (att_congr _ _ (fun j => vv j d) _ fun j => ?_)
  · rw [← att₂_scaled]
    refine congrArg (fun l => att₂ l _ _) (funext fun j => ?_)
    by_cases hj : Near n.val q j
    · rw [if_pos hj, if_pos ((hP j).mpr hj), score_scaled]
      simp only [hk j hj]
    · rw [if_neg hj, if_neg fun h => hj ((hP j).mp h), bot_mul_log2e]
  · by_cases hj : Near n.val q j
    · exact .inr (hv j hj d)
    · exact .inl (if_neg hj)

end Cert.BandMath
-- ==== Proof.BandMask.lean ====
/-
Which keys a query sees: those at most 127 places before it, itself included.
-/
module

public import Idealize.ShloMosaic.PureOps.Float

@[expose] public section

noncomputable section

namespace Cert.BandMask

open Idealize.ShloMosaic

/-- Row `r` of a block against column `k` of the stretch that begins one block earlier. -/
theorem near_bits : ∀ (r : Fin 128) (k : Fin 256),
    IntOp.andi (IntOp.cmpi CmpIPredicate.sge (IntOp.subi (IntOp.addi (BitVec.ofNat 32 r.val) 128#32) (BitVec.ofNat 32 k.val)) 0#32)
      (IntOp.cmpi CmpIPredicate.sle (IntOp.subi (IntOp.addi (BitVec.ofNat 32 r.val) 128#32) (BitVec.ofNat 32 k.val)) 127#32)
      = if k.val ≤ r.val + 128 ∧ r.val < k.val then 1#1 else 0#1 := by
  decide +kernel

/-- The kernel's test that a key is in the query's own block or the block is not a sequence's first. -/
theorem started_bits : ∀ (i : Fin 4) (k : Fin 256),
    IntOp.ori (IntOp.cmpi CmpIPredicate.sge (BitVec.ofNat 32 k.val) 128#32)
      (Scalar.xori (Scalar.cmpi CmpIPredicate.eq (BitVec.ofNat 32 i.val) 0#32) 1#1)
      = if 0 < i.val ∨ 128 ≤ k.val then 1#1 else 0#1 := by
  decide +kernel

/-- The reference's test of the same. -/
theorem started_bits' : ∀ (n : Fin 128) (k : Fin 256),
    IntOp.ori (IntOp.cmpi CmpIPredicate.sgt (BitVec.ofNat 32 n.val) 0#32) (IntOp.cmpi CmpIPredicate.sge (BitVec.ofNat 32 k.val) 128#32)
      = if 0 < n.val ∨ 128 ≤ k.val then 1#1 else 0#1 := by
  decide +kernel

theorem and_bits (p q : Prop) [Decidable p] [Decidable q] :
    IntOp.andi (if p then 1#1 else 0#1) (if q then 1#1 else 0#1) = if p ∧ q then 1#1 else 0#1 := by
  by_cases hp : p <;> by_cases hq : q <;> simp [hp, hq] <;> rfl

theorem select_bits {α : Type} (p : Prop) [Decidable p] (a b : α) : Scalar.select (if p then 1#1 else 0#1) a b = if p then a else b := by
  by_cases hp : p <;> simp [hp, Scalar.select]

end Cert.BandMask
-- ==== Proof.BandKernel.lean ====
/-
What the sliding-window attention kernel leaves in one grid step's block of the result.
-/
module

public import proofs.«01_k».proof.Proof.BandTiles
public import proofs.«01_k».proof.Proof.BandMath
public import proofs.«01_k».proof.Proof.BandMask
public import proofs.«01_k».proof.Proof.Tiles
public import Idealize.ShloMosaic.Lib.Pointwise
public import Idealize.ShloMosaic.Lib.Pipeline.ValueKit
@[expose] public section
set_option maxRecDepth 16384
noncomputable section
namespace Cert.BandKernel
open Cert.KernelIdeal Cert.KernelIdeal.Gen Cert.BandTiles Cert.BandMath
open Idealize.ShloMosaic Idealize.ShloMosaic.TcCoe Idealize.SL.Sem

theorem named_mask : (Named.named κ "mask" 0xF149F2CA#32 : Ideal .f32) = (⊥ : EReal) :=
  IdealRules.named_const.ideal_named_scalar _ _ _ _ rfl

theorem named_log2e : (Named.named κ "log2e" 0x3FB8AA3B#32 : Ideal .f32) = log2e :=
  IdealRules.named_const.ideal_named_scalar _ _ _ _ rfl

theorem neg_inf_bits : Ideal.ofBits .f32 4286578688#32 = (⊥ : EReal) := by simp [Ideal.ofBits, Ideal.ieee]

theorem later_pay (M : IVec S128x256 1) (A B : Vec Ideal S1x256x128 .bf16) (Q : Vec Ideal S1x128x128 .bf16) (s : Elt Ideal .f32)
    (u : Fin 1) (r c : Fin 128) :
    k0_pay40 (F := Ideal) M A B Q s (ix3 u r c)
      = att₂ (fun j => Scalar.select (M (ix2 r j)) (∑ x, Q (ix3 0 r x) * A (ix3 0 j x)) ⊥) (s * log2e) (fun j => B (ix3 0 j c)) := by
  pointwise [k0_pay40, k0_pay38, k0_pay39]
  rw [named_mask, named_log2e, neg_inf_bits]
  rfl

theorem first_pay (M : IVec S128x256 1) (A B : FVec Ideal S256x128 .bf16) (Q : Vec Ideal S1x128x128 .bf16) (s : Elt Ideal .f32)
    (u : Fin 1) (r c : Fin 128) :
    k0_pay24 (F := Ideal) M A B Q s (ix3 u r c)
      = att₂ (fun j => Scalar.select (M (ix2 r j)) (∑ x, Q (ix3 0 r x) * A (ix2 j x)) ⊥) (s * log2e) (fun j => B (ix2 j c)) := by
  pointwise [k0_pay24]
  rw [named_mask, named_log2e, neg_inf_bits]
  rfl

theorem joined_keys (A A' : Vec Ideal S1x128x128 .bf16) (j : Fin 256) (c : Fin 128) :
    k0_pay4 A A' (ix2 j c) = if h : j.val < 128 then A (ix3 0 ⟨j.val, h⟩ c) else A' (ix3 0 ⟨j.val - 128, by omega⟩ c) := by
  pointwise [k0_pay4]

theorem joined_values (A A' : Vec Ideal S1x128x128 .bf16) (j : Fin 256) (c : Fin 128) :
    k0_pay5 A A' (ix2 j c) = if h : j.val < 128 then A (ix3 0 ⟨j.val, h⟩ c) else A' (ix3 0 ⟨j.val - 128, by omega⟩ c) := by
  pointwise [k0_pay5]

theorem mask_later (r : Fin 128) (j : Fin 256) : k0_pay2 (ix2 r j) = if j.val ≤ r.val + 128 ∧ r.val < j.val then 1#1 else 0#1 := by
  pointwise [k0_pay2]
  exact BandMask.near_bits r j

theorem mask_first (i : grid0.Coords) (i₁ : Fin 4) (hi : i₁.val = (i 1).val) (r : Fin 128) (j : Fin 256) :
    k0_pay3 i (ix2 r j) = if Near i₁.val r j then 1#1 else 0#1 := by
  pointwise [k0_pay3, k0_pay2]
  rw [← hi, BandMask.near_bits r j, BandMask.started_bits i₁ j, BandMask.and_bits]

section Tiles

variable (i : grid0.Coords)
  (a2 : Memref sig .tc .smem S4 .f32) (h2 : a2.IsWhole) (a3 : Memref sig .tc .vmem S1x4096x512 .bf16) (h3 : a3.IsWhole)
  (a4 : Memref sig .tc .vmem S1x4096x256 .bf16) (h4 : a4.IsWhole)
  (a5 : Memref sig .tc .vmem S1x4096x256 .bf16) (h5 : a5.IsWhole)
  (a6 : Memref sig .tc .vmem S1x128x256 .bf16) (h6 : a6.IsWhole)
  (a7 : Memref sig .tc .vmem S1x128x256 .bf16) (h7 : a7.IsWhole)
  (x0 : Vec Ideal S4 .f32) (x1 : Vec Ideal S1x4096x512 .bf16) (x2 : Vec Ideal S1x4096x256 .bf16) (x3 : Vec Ideal S1x4096x256 .bf16)
  (x4 : Vec Ideal S1x128x256 .bf16) (x5 : Vec Ideal S1x128x256 .bf16)

theorem query_apply (n : Fin 128) (r x : Fin 128) :
    query a3 h3 x1 n (ix3 0 r x) = x1 (ix3 0 ⟨128 * (n.val / 4) + r.val, by omega⟩ ⟨128 * (n.val % 4) + x.val, by omega⟩) := by
  unfold query
  rw [View.readAt_eq_ld, Memref.IsWhole.read_unread]
  pointwise

theorem own_apply (n : Fin 128) (r x : Fin 128) :
    own a4 h4 x2 n (ix3 0 r x) = x2 (ix3 0 ⟨r.val, by omega⟩ ⟨128 * (n.val % 4 / 2) + x.val, by omega⟩) := by
  unfold own
  rw [View.readAt_eq_ld, Memref.IsWhole.read_unread]
  pointwise

theorem prev_apply (n : Fin 128) (r x : Fin 128) :
    prev a6 h6 x4 n (ix3 0 r x) = x4 (ix3 0 r ⟨128 * (n.val % 4 / 2) + x.val, by omega⟩) := by
  unfold prev
  rw [View.readAt_eq_ld, Memref.IsWhole.read_unread]
  pointwise

theorem pair_apply (n : Fin 128) (k : Fin 256) (x : Fin 128) :
    pair a4 h4 x2 n (ix3 0 k x)
      = x2 (ix3 0 ⟨128 * (n.val / 4 - 1) + k.val, by omega⟩ ⟨128 * (n.val % 4 / 2) + x.val, by omega⟩) := by
  unfold pair
  rw [View.readAt_eq_ld, Memref.IsWhole.read_unread]
  pointwise

theorem sink_apply (n : Fin 128) : sink a2 h2 x0 n = x0 (ix1 ⟨n.val % 4, by omega⟩) := by
  unfold sink
  rw [View.readAt_eq_ld, Memref.IsWhole.read_unread]
  pointwise

/-! ## A tile, and the block -/

theorem own_lt (i₁ : Fin 4) (a : Fin 4096) : 4096 * i₁.val + a.val < 16384 := by omega

theorem prev_lt (i₁ : Fin 4) (a : Fin 128) : 128 * (32 * i₁.val - 1) + a.val < 16384 := by omega

variable (i₁ : Fin 4) (hi : i₁.val = (i 1).val) (Q : Fin 16384 → Fin 512 → EReal) (K V : Fin 16384 → Fin 256 → EReal) (S : Fin 4 → EReal)
  (g0 : ∀ h, x0 (ix1 h) = S h)
  (g1 : ∀ a w, x1 (ix3 0 a w) = Q ⟨4096 * i₁.val + a.val, own_lt i₁ a⟩ w * (scale * log2e))
  (g2 : ∀ a w, x2 (ix3 0 a w) = K ⟨4096 * i₁.val + a.val, own_lt i₁ a⟩ w)
  (g3 : ∀ a w, x3 (ix3 0 a w) = V ⟨4096 * i₁.val + a.val, own_lt i₁ a⟩ w)
  (g4 : ∀ a w, x4 (ix3 0 a w) = K ⟨128 * (32 * i₁.val - 1) + a.val, prev_lt i₁ a⟩ w)
  (g5 : ∀ a w, x5 (ix3 0 a w) = V ⟨128 * (32 * i₁.val - 1) + a.val, prev_lt i₁ a⟩ w)
include hi g0 g1 g2 g3 g4 g5

theorem tile_apply (n : Fin 128) (r c : Fin 128) :
    tile i a2 h2 a3 h3 a4 h4 a5 h5 a6 h6 a7 h7 x0 x1 x2 x3 x4 x5 n (ix3 0 r c)
      = head (fun x => Q ⟨4096 * i₁.val + (128 * (n.val / 4) + r.val), by omega⟩ ⟨128 * (n.val % 4) + x.val, by omega⟩) K V
          (S ⟨n.val % 4, by omega⟩) ⟨32 * i₁.val + n.val / 4, by omega⟩ r ⟨n.val % 4, by omega⟩ c := by
  have hr := r.isLt
  have hi₁ := i₁.isLt
  have hn128 := n.isLt
  unfold tile
  by_cases hn : n.val / 4 = 0
  · have hkeys : ∀ (X : Fin 16384 → Fin 256 → EReal) (y : Vec Ideal S1x4096x256 .bf16) (y' : Vec Ideal S1x128x256 .bf16),
        (∀ a w, y (ix3 0 a w) = X ⟨4096 * i₁.val + a.val, by omega⟩ w) →
        (∀ a w, y' (ix3 0 a w) = X ⟨128 * (32 * i₁.val - 1) + a.val, by omega⟩ w) → ∀ (j : Fin 256) (w : Fin 256),
        Near (32 * i₁.val + n.val / 4) r j →
        (if h : j.val < 128 then y' (ix3 0 ⟨j.val, h⟩ w) else y (ix3 0 ⟨j.val - 128, by omega⟩ w))
          = X (keyRow ⟨32 * i₁.val + n.val / 4, by omega⟩ j) w := by
      intro X y y' e e' j w hj
      by_cases h : j.val < 128
      · rw [dif_pos h, e']
        refine congrArg (fun t => X t w) (Fin.ext ?_)
        show 128 * (32 * i₁.val - 1) + j.val = (32 * i₁.val + n.val / 4) * 128 + j.val - 128
        omega
      · rw [dif_neg h, e]
        refine congrArg (fun t => X t w) (Fin.ext ?_)
        show 4096 * i₁.val + (j.val - 128) = (32 * i₁.val + n.val / 4) * 128 + j.val - 128
        omega
    rw [if_pos hn, first_pay, sink_apply, g0]
    simp only [mask_first i i₁ hi, BandMask.select_bits, query_apply, g1]
    refine head_of _ K V _ ⟨32 * i₁.val + n.val / 4, by omega⟩ r ⟨n.val % 4, by omega⟩ c
      (fun j x => k0_pay4 (prev a6 h6 x4 n) (own a4 h4 x2 n) (ix2 j x)) (fun j x => k0_pay5 (prev a7 h7 x5 n) (own a5 h5 x3 n) (ix2 j x))
      (fun j => Near i₁.val r j) (fun j => ?_) (fun j hj x => ?_) (fun j hj x => ?_)
    · show Near i₁.val r j ↔ Near (32 * i₁.val + n.val / 4) r j
      unfold Near
      omega
    · rw [joined_keys]
      simp only [prev_apply, own_apply]
      exact hkeys K x2 x4 g2 g4 j _ hj
    · rw [joined_values]
      simp only [prev_apply, own_apply]
      exact hkeys V x3 x5 g3 g5 j _ hj
  · rw [if_neg hn, later_pay, sink_apply, g0]
    simp only [mask_later, BandMask.select_bits, query_apply, g1]
    have hrow : ∀ j : Fin 256, (⟨4096 * i₁.val + (128 * (n.val / 4 - 1) + j.val), by omega⟩ : Fin 16384)
        = keyRow ⟨32 * i₁.val + n.val / 4, by omega⟩ j := fun j => Fin.ext (by
      show 4096 * i₁.val + (128 * (n.val / 4 - 1) + j.val) = (32 * i₁.val + n.val / 4) * 128 + j.val - 128
      omega)
    refine head_of _ K V _ ⟨32 * i₁.val + n.val / 4, by omega⟩ r ⟨n.val % 4, by omega⟩ c
      (fun j x => pair a4 h4 x2 n (ix3 0 j x)) (fun j x => pair a5 h5 x3 n (ix3 0 j x))
      (fun j => j.val ≤ r.val + 128 ∧ r.val < j.val) (fun j => ?_) (fun j hj x => ?_) (fun j hj x => ?_)
    · show _ ↔ Near (32 * i₁.val + n.val / 4) r j
      unfold Near
      omega
    · rw [pair_apply, g2, hrow]
    · rw [pair_apply, g3, hrow]

/-- Row `a`, column `w` of the block, read through the printed list of stores. -/
theorem tiles_apply (v : View sig .tc .vmem S1x4096x512 .bf16) (f : v.ty.Contents (Elt Ideal)) (a : Fin 4096) (w : Fin 512) :
    v.read (Elt Ideal) (v.writes (Elt Ideal) f (tiles i a2 h2 a3 h3 a4 h4 a5 h5 a6 h6 a7 h7 x0 x1 x2 x3 x4 x5 128 (le_refl 128))) (ix3 0 a w)
      = window Q K V S ⟨4096 * i₁.val + a.val, own_lt i₁ a⟩ w := by
  have ha := a.isLt
  have hw := w.isLt
  have hi₁ := i₁.isLt
  let n : Fin 128 := ⟨4 * (a.val / 128) + w.val / 128, by omega⟩
  let r : Fin 128 := ⟨a.val % 128, by omega⟩
  let c : Fin 128 := ⟨w.val % 128, by omega⟩
  have hnv : n.val = 4 * (a.val / 128) + w.val / 128 := rfl
  have hrv : r.val = a.val % 128 := rfl
  have hcv : c.val = w.val % 128 := rfl
  have e := Tiles.read_apart (Val := Elt Ideal) v f S1x128x128.size
    (fun n : Fin 128 => ![0, 128 * (n.val / 4), 128 * (n.val % 4)]) tile_in
    (tile i a2 h2 a3 h3 a4 h4 a5 h5 a6 h6 a7 h7 x0 x1 x2 x3 x4 x5) 128 (le_refl 128) (ix3 0 a w) n n.isLt (ix3 0 r c)
    (fun b => by
      match b with
      | ⟨0, _⟩ => rfl
      | ⟨1, _⟩ => show a.val = 128 * (n.val / 4) + r.val; omega
      | ⟨2, _⟩ => show w.val = 128 * (n.val % 4) + c.val; omega)
    (fun n' hne => by
      have hne : n'.val ≠ n.val := fun h => hne (Fin.ext h)
      by_cases hs : n'.val / 4 = n.val / 4
      · refine ⟨2, ?_⟩
        show w.val < 128 * (n'.val % 4) ∨ 128 * (n'.val % 4) + 128 ≤ w.val
        omega
      · refine ⟨1, ?_⟩
        show a.val < 128 * (n'.val / 4) ∨ 128 * (n'.val / 4) + 128 ≤ a.val
        omega)
  refine e.trans ((tile_apply i a2 h2 a3 h3 a4 h4 a5 h5 a6 h6 a7 h7 x0 x1 x2 x3 x4 x5 i₁ hi Q K V S g0 g1 g2 g3 g4 g5 n r c).trans ?_)
  unfold window
  have e1 : (⟨4096 * i₁.val + (128 * (n.val / 4) + r.val), by omega⟩ : Fin 16384) = ⟨4096 * i₁.val + a.val, by omega⟩ := Fin.ext (by
    show 4096 * i₁.val + (128 * (n.val / 4) + r.val) = 4096 * i₁.val + a.val
    omega)
  have e2 : (⟨n.val % 4, by omega⟩ : Fin 4) = ⟨w.val / 128, by omega⟩ := Fin.ext (by show n.val % 4 = w.val / 128; omega)
  have e3 : (⟨32 * i₁.val + n.val / 4, by omega⟩ : Fin 128) = ⟨(4096 * i₁.val + a.val) / 128, by omega⟩ := Fin.ext (by
    show 32 * i₁.val + n.val / 4 = (4096 * i₁.val + a.val) / 128; omega)
  have e4 : r = ⟨(4096 * i₁.val + a.val) % 128, by omega⟩ := Fin.ext (by show a.val % 128 = (4096 * i₁.val + a.val) % 128; omega)
  have e5 : ∀ x : Fin 128, (⟨128 * (n.val % 4) + x.val, by omega⟩ : Fin 512) = ⟨128 * (w.val / 128) + x.val, by omega⟩ := fun x => Fin.ext (by
    show 128 * (n.val % 4) + x.val = 128 * (w.val / 128) + x.val; omega)
  rw [e1, e2, e3, e4]
  simp only [e5]
  rfl

end Tiles
end Cert.BandKernel
-- ==== Proof.BandArray.lean ====
/-
The sliding-window attention's result array as one function of its arguments.
-/
module

public import proofs.«01_k».proof.Proof.BandKernel
public import proofs.«01_k».proof.Proof.Gen.KernelIdeal.Value
public import Idealize.ShloMosaic.Lib.Claim

@[expose] public section

set_option maxRecDepth 16384

noncomputable section

namespace Cert.BandArray

open Cert.KernelIdeal Cert.KernelIdeal.Gen Cert.BandTiles Cert.BandMath
open Idealize.ShloMosaic Idealize.ShloMosaic.TcCoe Idealize.SL.Sem
open Idealize.ShloMosaic.Pipeline (Dat)

/-- The attention of every position of both sequences. -/
def attended (x0 : Vec Ideal S2x16384x512 .f32) (x1 x2 : Vec Ideal S2x16384x256 .f32) (x3 : Vec Ideal S1x4 .f32) :
    Vec Ideal S2x16384x512 .bf16 := fun i =>
  window (fun p w => x0 (ix3 (i 0) p w)) (fun p w => x1 (ix3 (i 0) p w)) (fun p w => x2 (ix3 (i 0) p w)) (fun h => x3 (ix2 0 h)) (i 1) (i 2)

variable (m : (ℓ : Loc nD τ sig) → Buf (Elt Ideal) ℓ)

/-! ## The arrays at the region's entry -/

theorem entry_sinks (c : Dev nD) (h : Fin 4) : V m c main_v8 (ix1 h) = m ((c : Thread nD τ).loc main_arg3) (ix2 0 h) := by
  entry_read
  pointwise

theorem entry_queries (c : Dev nD) (b : Fin 2) (p : Fin 16384) (w : Fin 512) :
    V m c main_v5 (ix3 b p w) = HMul.hMul (α := EReal) (β := EReal) (γ := EReal) (m ((c : Thread nD τ).loc main_arg0) (ix3 b p w)) (scale * log2e) := by
  entry_read
  pointwise
  rw [← scale_div]
  rfl

theorem entry_keys (c : Dev nD) (b : Fin 2) (p : Fin 16384) (w : Fin 256) :
    V m c main_v6 (ix3 b p w) = m ((c : Thread nD τ).loc main_arg1) (ix3 b p w) := by
  entry_read
  pointwise

theorem entry_values (c : Dev nD) (b : Fin 2) (p : Fin 16384) (w : Fin 256) :
    V m c main_v7 (ix3 b p w) = m ((c : Thread nD τ).loc main_arg2) (ix3 b p w) := by
  entry_read
  pointwise

/-! ## The windows' block indices -/

theorem e0 : ∀ t : Fin cfg0.N, win0_0.index t = ![0] := (by decide +kernel : ∀ t : Fin grid0.N, win0_0.index t = ![0])
theorem e1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem e2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem e3 : ∀ t : Fin cfg0.N, win0_3.index t = ![(grid0.coords t 0).val, (grid0.coords t 1).val, 0] :=
  (by decide +kernel : ∀ t : Fin grid0.N, win0_3.index t = ![(grid0.coords t 0).val, (grid0.coords t 1).val, 0])
theorem e4 : ∀ t : Fin cfg0.N, win0_4.index t = ![(grid0.coords t 0).val, 32 * (grid0.coords t 1).val - 1, 0] :=
  (by decide +kernel : ∀ t : Fin grid0.N, win0_4.index t = ![(grid0.coords t 0).val, 32 * (grid0.coords t 1).val - 1, 0])
theorem e5 : ∀ t : Fin cfg0.N, win0_5.index t = ![(grid0.coords t 0).val, 32 * (grid0.coords t 1).val - 1, 0] :=
  (by decide +kernel : ∀ t : Fin grid0.N, win0_5.index t = ![(grid0.coords t 0).val, 32 * (grid0.coords t 1).val - 1, 0])
theorem e6 : ∀ t : Fin cfg0.N, win0_6.index t = ![(grid0.coords t 0).val, (grid0.coords t 1).val, 0] :=
  (by decide +kernel : ∀ t : Fin grid0.N, win0_6.index t = ![(grid0.coords t 0).val, (grid0.coords t 1).val, 0])

/-- The sequence and the stretch of it a grid point works on. -/
def seqOf (t : Fin cfg0.N) : Fin 2 := ⟨(grid0.coords t 0).val, (grid0.coords t 0).isLt⟩
def partOf (t : Fin cfg0.N) : Fin 4 := ⟨(grid0.coords t 1).val, (grid0.coords t 1).isLt⟩

theorem blk0 (c : Dev nD) (t : Fin cfg0.N) (h : Fin 4) : iblk m c 0 t (ix1 h) = V m c main_v8 (ix1 h) := by
  blk_simp [iblk]
  refine congrArg (V m c main_v8) ?_
  blk_ext [e0]

theorem blk1 (c : Dev nD) (t : Fin cfg0.N) (a : Fin 4096) (w : Fin 512) :
    iblk m c 1 t (ix3 0 a w) = V m c main_v5 (ix3 (seqOf t) ⟨4096 * (partOf t).val + a.val, by omega⟩ w) := by
  blk_simp [iblk]
  refine congrArg (V m c main_v5) ?_
  unfold seqOf partOf
  blk_ext [e1]

theorem blk2 (c : Dev nD) (t : Fin cfg0.N) (a : Fin 4096) (w : Fin 256) :
    iblk m c 2 t (ix3 0 a w) = V m c main_v6 (ix3 (seqOf t) ⟨4096 * (partOf t).val + a.val, by omega⟩ w) := by
  blk_simp [iblk]
  refine congrArg (V m c main_v6) ?_
  unfold seqOf partOf
  blk_ext [e2]

theorem blk3 (c : Dev nD) (t : Fin cfg0.N) (a : Fin 4096) (w : Fin 256) :
    iblk m c 3 t (ix3 0 a w) = V m c main_v7 (ix3 (seqOf t) ⟨4096 * (partOf t).val + a.val, by omega⟩ w) := by
  blk_simp [iblk]
  refine congrArg (V m c main_v7) ?_
  unfold seqOf partOf
  blk_ext [e3]

theorem blk4 (c : Dev nD) (t : Fin cfg0.N) (a : Fin 128) (w : Fin 256) :
    iblk m c 4 t (ix3 0 a w) = V m c main_v6 (ix3 (seqOf t) ⟨128 * (32 * (partOf t).val - 1) + a.val, by omega⟩ w) := by
  blk_simp [iblk]
  refine congrArg (V m c main_v6) ?_
  unfold seqOf partOf
  blk_ext [e4]

theorem blk5 (c : Dev nD) (t : Fin cfg0.N) (a : Fin 128) (w : Fin 256) :
    iblk m c 5 t (ix3 0 a w) = V m c main_v7 (ix3 (seqOf t) ⟨128 * (32 * (partOf t).val - 1) + a.val, by omega⟩ w) := by
  blk_simp [iblk]
  refine congrArg (V m c main_v7) ?_
  unfold seqOf partOf
  blk_ext [e5]

theorem place (t : Fin cfg0.N) (a : Fin 4096) (w : Fin 512) :
    (win0_6.blk t).view.emb (ix3 0 a w) = ix3 (seqOf t) ⟨4096 * (partOf t).val + a.val, by omega⟩ w := by
  unfold seqOf partOf
  blk_ext [e6]

/-- What the body leaves in the output block. -/
theorem after_apply (c : Dev nD) (t : Fin cfg0.N) (a : Fin 4096) (w : Fin 512) :
    outsAt0 m c t (ix3 0 a w)
      = window (fun p w => m ((c : Thread nD τ).loc main_arg0) (ix3 (seqOf t) p w)) (fun p w => m ((c : Thread nD τ).loc main_arg1) (ix3 (seqOf t) p w))
          (fun p w => m ((c : Thread nD τ).loc main_arg2) (ix3 (seqOf t) p w)) (fun h => m ((c : Thread nD τ).loc main_arg3) (ix2 0 h))
          ⟨4096 * (partOf t).val + a.val, by omega⟩ w := by
  unfold outsAt0 out0_A_6
  rw [run_tiles]
  exact BandKernel.tiles_apply _ _ _ _ _ _ _ _ _ _ _ _ _ _ _ _ _ _ _ (partOf t) rfl
    (fun p w => m ((c : Thread nD τ).loc main_arg0) (ix3 (seqOf t) p w)) (fun p w => m ((c : Thread nD τ).loc main_arg1) (ix3 (seqOf t) p w))
    (fun p w => m ((c : Thread nD τ).loc main_arg2) (ix3 (seqOf t) p w)) (fun h => m ((c : Thread nD τ).loc main_arg3) (ix2 0 h))
    (fun h => (blk0 m c t h).trans (entry_sinks m c h)) (fun a w => (blk1 m c t a w).trans (entry_queries m c _ _ w))
    (fun a w => (blk2 m c t a w).trans (entry_keys m c _ _ w)) (fun a w => (blk3 m c t a w).trans (entry_values m c _ _ w))
    (fun a w => (blk4 m c t a w).trans (entry_keys m c _ _ w)) (fun a w => (blk5 m c t a w).trans (entry_values m c _ _ w)) _ _ a w

/-- The result array after the run. -/
theorem final (c : Dev nD) :
    (dats m 0 c).arrAt 6 cfg0.N
      = attended (m ((c : Thread nD τ).loc main_arg0)) (m ((c : Thread nD τ).loc main_arg1)) (m ((c : Thread nD τ).loc main_arg2))
          (m ((c : Thread nD τ).loc main_arg3)) := by
  refine (dats m 0 c).arrAt_eq_of_covers 6 _ (by decide +kernel) fun t _ y => ?_
  blk_simp
  rw [after0_6]
  obtain ⟨u, a, w, rfl⟩ : ∃ (u : Fin 1) (a : Fin 4096) (w : Fin 512), y = ix3 u a w :=
    ⟨y 0, y 1, y 2, funext fun a => by fin_cases a <;> rfl⟩
  obtain rfl : u = 0 := Subsingleton.elim _ _
  rw [place, after_apply]
  rfl

end Cert.BandArray
-- ==== Proof.BandRef.lean ====
/-
What the plain sliding-window attention leaves at each index, stage by stage.
-/
module

public import proofs.«01_k».proof.Proof.BandMath
public import proofs.«01_k».proof.Proof.BandMask
public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.BandRef

open Cert.ReferenceIdeal Cert.ReferenceIdeal.Gen Cert.ReferenceIdeal.Read Cert.BandMath
open Idealize.ShloMosaic Idealize.ShloMosaic.TcCoe Idealize.SL.Sem

theorem at_lt (n k : Fin 128) : 128 * n.val + k.val < 16384 := by omega

theorem col_lt (h : Fin 2) (x : Fin 128) : 128 * h.val + x.val < 256 := by omega

theorem qcol_lt (h g : Fin 2) (x : Fin 128) : 128 * (2 * h.val + g.val) + x.val < 512 := by omega

theorem head_lt (h g : Fin 2) : 2 * h.val + g.val < 4 := by omega

/-! ## Keys and values next to their predecessors -/

theorem folded (y : Vec Ideal S2x16384x256 .f32) (b : Fin 2) (n k : Fin 128) (h : Fin 2) (x : Fin 128) :
    val_main_v1 y (ix5 b n k h x) = y (ix3 b ⟨128 * n.val + k.val, at_lt n k⟩ ⟨128 * h.val + x.val, col_lt h x⟩) := by
  unfold val_main_v1
  pointwise
  congr 1
  congr 1 <;> exact Fin.ext (by simp; try omega)

theorem paired (y : Vec Ideal S2x16384x256 .f32) (b : Fin 2) (n : Fin 128) (q : Fin 128) (k : Fin 256) (h : Fin 2) (x : Fin 128)
    (hk : Near n.val q k) :
    val_main_v5 y (ix5 b n k h x) = y (ix3 b (keyRow n k) ⟨128 * h.val + x.val, col_lt h x⟩) := by
  unfold val_main_v5 val_main_v4 val_main_v3
  have e := folded y b
  generalize val_main_v1 y = z at e ⊢
  pointwise [val_main_call0_v0, val_main_c]
  have hb := hk.2
  by_cases h₁ : k.val < 128
  · rw [dif_pos h₁, dif_pos ⟨by omega, h₁⟩]
    refine (e _ _ h x).trans (congrArg (fun p => y (ix3 b p _)) (Fin.ext ?_))
    show 128 * (n.val - 1) + k.val = n.val * 128 + k.val - 128
    omega
  · rw [dif_neg h₁]
    refine (e _ _ h x).trans (congrArg (fun p => y (ix3 b p _)) (Fin.ext ?_))
    show 128 * n.val + (k.val - 128) = n.val * 128 + k.val - 128
    omega

theorem paired' (y : Vec Ideal S2x16384x256 .f32) : val_main_v8 y = val_main_v5 y := rfl

theorem query (y : Vec Ideal S2x16384x512 .f32) (b : Fin 2) (n q : Fin 128) (h g : Fin 2) (x : Fin 128) :
    val_main_v0 y (ix6 b n q h g x) = y (ix3 b ⟨128 * n.val + q.val, at_lt n q⟩ ⟨128 * (2 * h.val + g.val) + x.val, qcol_lt h g x⟩) := by
  unfold val_main_v0
  pointwise
  congr 1
  congr 1 <;> exact Fin.ext (by simp; try omega)

/-! ## The mask -/

theorem seen (b : Fin 2) (n : Fin 128) (h g : Fin 2) (q : Fin 128) (k : Fin 256) :
    val_main_call2_v1 (F := Ideal) (ix6 b n h g q k) = if Near n.val q k then 1#1 else 0#1 := by
  pointwise [val_main_call2_v1, val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14,
    val_main_c_1, val_main_c_2, val_main_c_3, val_main_c_4, val_main_c_5]
  rw [BandMask.near_bits q k, BandMask.started_bits' n k, BandMask.and_bits]

/-! ## Scores -/

section Score
variable (x0 : Vec Ideal S2x16384x512 .f32) (x1 x2 : Vec Ideal S2x16384x256 .f32) (x3 : Vec Ideal S1x4 .f32)

/-- The score of a query for a column of its stretch. -/
def score (b : Fin 2) (n : Fin 128) (h g : Fin 2) (q : Fin 128) (k : Fin 256) : EReal :=
  if Near n.val q k then
    (∑ x : Fin 128, x0 (ix3 b ⟨128 * n.val + q.val, at_lt n q⟩ ⟨128 * (2 * h.val + g.val) + x.val, qcol_lt h g x⟩)
      * x1 (ix3 b (keyRow n k) ⟨128 * h.val + x.val, col_lt h x⟩)) * scale
  else ⊥

theorem neg_inf_bits : Ideal.ofBits .f32 4286578688#32 = (⊥ : EReal) := by simp [Ideal.ofBits, Ideal.ieee]

theorem logit (b : Fin 2) (n : Fin 128) (h g : Fin 2) (q : Fin 128) (k : Fin 256) :
    val_main_v13 x0 x1 (ix6 b n h g q k) = HMul.hMul (α := EReal) (β := EReal) (γ := EReal)
      (∑ x : Fin 128, HMul.hMul (α := EReal) (β := EReal) (γ := EReal) (val_main_v5 x1 (ix5 b n k h x)) (val_main_v0 x0 (ix6 b n q h g x))) scale := by
  unfold val_main_v13 val_main_v10 val_main_v9
  generalize val_main_v5 x1 = y
  generalize val_main_v0 x0 = z
  pointwise [val_main_v12, val_main_v11, val_main_cst]
  rfl

theorem scored (b : Fin 2) (n : Fin 128) (h g : Fin 2) (q : Fin 128) (k : Fin 256) :
    val_main_v43 x0 x1 (ix6 b n h g q k) = score x0 x1 b n h g q k := by
  unfold val_main_v43
  have e := logit x0 x1 b n h g q k
  have e' := seen b n h g q k
  generalize val_main_v13 x0 x1 = y at e ⊢
  generalize val_main_call2_v1 = w at e' ⊢
  pointwise [val_main_call2_v2, val_main_call2_v0, val_main_cst_6]
  rw [e', BandMask.select_bits, e, show id (constant (F := Ideal) S_ .f32 0xFF800000#32) ix0 = (⊥ : EReal) from neg_inf_bits]
  unfold score
  by_cases hk : Near n.val q k
  · rw [if_pos hk, if_pos hk]
    refine congrArg (· * scale) (Finset.sum_congr rfl fun x _ => ?_)
    rw [paired x1 b n q k h x hk, query, mul_comm]
  · rw [if_neg hk, if_neg hk]

/-- The score of a head's sink. -/
def sunk (h g : Fin 2) : EReal := x3 (ix2 0 ⟨2 * h.val + g.val, head_lt h g⟩)

theorem sink (b : Fin 2) (n : Fin 128) (h g : Fin 2) (q : Fin 128) :
    val_main_v47 x3 (ix5 b n h g q) = sunk x3 h g := by
  unfold val_main_v47 val_main_v46 val_main_v45
  pointwise
  unfold sunk
  congr 1
  congr 1 <;> exact Fin.ext (by simp; try omega)

theorem sink' : val_main_v54 x3 = val_main_v47 (F := Ideal) x3 := rfl

/-- The largest entry along the last axis. -/
theorem largest (y : FVec Ideal S2x128x2x2x128x256 .f32) (z : FVec Ideal S_ .f32) (b : Fin 2) (n : Fin 128) (h g : Fin 2) (q : Fin 128)
    (l : Fin 256 → EReal) (e : ∀ k, y (ix6 b n h g q k) = l k) :
    Host.reduce (α := Ideal .f32) FloatOps.maximumf y z reducesTo_S2x128x2x2x128x256_S2x128x2x2x128_d5 h_S_ (ix5 b n h g q)
      = Finset.univ.fold max (z (Shape.Idx.first h_S_) : EReal) l := by
  obtain rfl : (fun k => y (ix6 b n h g q k)) = l := funext e
  refine (Host.reduce_eq_fold_single (α := Ideal .f32) FloatOps.maximumf y z reducesTo_S2x128x2x2x128x256_S2x128x2x2x128_d5
    (by decide) h_S_ (ix5 b n h g q)).trans ?_
  refine congrArg (Finset.univ.fold max (z (Shape.Idx.first h_S_) : EReal)) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem larger {s : Shape} (y w : FVec Ideal s .f32) (i : s.Idx) (t u : EReal) (e : y i = t) (e' : w i = u) :
    maximumf y w i = (max t u : EReal) := by
  rw [maximumf_apply, e, e']
  exact Ideal.maximumf_def _ _

theorem peak (b : Fin 2) (n : Fin 128) (h g : Fin 2) (q : Fin 128) :
    val_main_v48 x0 x1 x3 (ix5 b n h g q) = (max (top (score x0 x1 b n h g q)) (sunk x3 h g) : EReal) := by
  unfold val_main_v48
  have e : val_main_v44 x0 x1 (ix5 b n h g q) = top (score x0 x1 b n h g q) := by
    unfold val_main_v44
    have e := scored x0 x1 b n h g q
    generalize val_main_v43 x0 x1 = y at e ⊢
    generalize score x0 x1 b n h g q = l at e ⊢
    have hz : val_main_cst_7 (F := Ideal) (Shape.Idx.first h_S_) = (⊥ : EReal) := by
      rw [val_main_cst_7_apply]
      exact neg_inf_bits
    generalize val_main_cst_7 (F := Ideal) = z at hz ⊢
    rw [largest y z b n h g q l e, hz]
    rfl
  have e' := sink x3 b n h g q
  generalize val_main_v44 x0 x1 = y at e ⊢
  generalize val_main_v47 x3 = w at e' ⊢
  generalize top (score x0 x1 b n h g q) = t at e ⊢
  generalize sunk x3 h g = u at e' ⊢
  exact larger y w _ t u e e'

/-- A column's weight before normalization. -/
def weight (b : Fin 2) (n : Fin 128) (h g : Fin 2) (q : Fin 128) (k : Fin 256) : EReal :=
  Ideal.exp (score x0 x1 b n h g q k - max (top (score x0 x1 b n h g q)) (sunk x3 h g))

theorem weighted (b : Fin 2) (n : Fin 128) (h g : Fin 2) (q : Fin 128) (k : Fin 256) :
    val_main_v52 x0 x1 x3 (ix6 b n h g q k) = weight x0 x1 x3 b n h g q k := by
  unfold val_main_v52 val_main_v51 val_main_v50 val_main_v49
  have e := scored x0 x1 b n h g q k
  have e' := peak x0 x1 x3 b n h g q
  generalize val_main_v43 x0 x1 = y at e ⊢
  generalize val_main_v48 x0 x1 x3 = w at e' ⊢
  pointwise
  rw [e, e']
  rfl

theorem total (b : Fin 2) (n : Fin 128) (h g : Fin 2) (q : Fin 128) :
    val_main_v57 x0 x1 x3 (ix5 b n h g q)
      = (∑ k, weight x0 x1 x3 b n h g q k) + Ideal.exp (sunk x3 h g - max (top (score x0 x1 b n h g q)) (sunk x3 h g)) := by
  unfold val_main_v57 val_main_v56 val_main_v55
  rw [sink']
  have e : val_main_v53 x0 x1 x3 (ix5 b n h g q) = ∑ k, weight x0 x1 x3 b n h g q k := by
    rw [val_main_v53_apply, val_main_cst_8_apply]
    refine (congrArg (· + _) (Ideal.ofBits_zero_f32)).trans ((zero_add _).trans (Finset.sum_congr rfl fun k _ => ?_))
    refine (congrArg (val_main_v52 x0 x1 x3) ?_).trans (weighted x0 x1 x3 b n h g q k)
    exact funext fun a => Fin.ext (by match a with | ⟨0, _⟩ => rfl | ⟨1, _⟩ => rfl | ⟨2, _⟩ => rfl | ⟨3, _⟩ => rfl | ⟨4, _⟩ => rfl | ⟨5, _⟩ => rfl)
  have e' := peak x0 x1 x3 b n h g q
  have e'' := sink x3 b n h g q
  generalize val_main_v53 x0 x1 x3 = y at e ⊢
  generalize val_main_v48 x0 x1 x3 = w at e' ⊢
  generalize val_main_v47 x3 = z at e'' ⊢
  pointwise
  rw [e, e', e'']

theorem mixed (b : Fin 2) (n : Fin 128) (h g : Fin 2) (q d : Fin 128) :
    val_main_v58 x0 x1 x2 x3 (ix6 b n h d g q)
      = ∑ k, HMul.hMul (α := EReal) (β := EReal) (γ := EReal) (val_main_v5 x2 (ix5 b n k h d)) (weight x0 x1 x3 b n h g q k) := by
  unfold val_main_v58
  rw [paired']
  have e := weighted x0 x1 x3 b n h g q
  generalize val_main_v52 x0 x1 x3 = y at e ⊢
  generalize val_main_v5 x2 = w
  pointwise
  simp only [e]

/-- The normalized result of one head. -/
theorem attended (b : Fin 2) (n q : Fin 128) (h g : Fin 2) (d : Fin 128) :
    val_main_v64 x0 x1 x2 x3 (ix6 b n q h g d)
      = head (fun x => x0 (ix3 b ⟨128 * n.val + q.val, at_lt n q⟩ ⟨128 * (2 * h.val + g.val) + x.val, qcol_lt h g x⟩))
          (fun p w => x1 (ix3 b p w)) (fun p w => x2 (ix3 b p w)) (sunk x3 h g) n q ⟨2 * h.val + g.val, head_lt h g⟩ d := by
  unfold val_main_v64 val_main_v63 val_main_v62 val_main_v61 val_main_v60 val_main_v59
  have e := mixed x0 x1 x2 x3 b n h g q d
  have e' := total x0 x1 x3 b n h g q
  generalize val_main_v58 x0 x1 x2 x3 = y at e ⊢
  generalize val_main_v57 x0 x1 x3 = w at e' ⊢
  pointwise
  rw [e, e']
  have hh : (2 * h.val + g.val) / 2 = h.val := by omega
  have es : score x0 x1 b n h g q = fun j => if Near n.val q j then
      (∑ x : Fin 128, x0 (ix3 b ⟨128 * n.val + q.val, at_lt n q⟩ ⟨128 * (2 * h.val + g.val) + x.val, qcol_lt h g x⟩)
        * x1 (ix3 b (keyRow n j) ⟨128 * ((2 * h.val + g.val) / 2) + x.val, by omega⟩)) * scale else ⊥ := by
    funext j
    unfold score
    simp only [hh]
  unfold head
  rw [← es]
  refine Eq.trans (b := att (score x0 x1 b n h g q) (sunk x3 h g) (fun k => val_main_v5 x2 (ix5 b n k h d))) ?_
    (att_congr _ _ _ _ fun j => ?_)
  · unfold att weight
    refine congrArg (fun t => Ideal.div t _) (Finset.sum_congr rfl fun k _ => mul_comm _ _)
  · by_cases hj : Near n.val q j
    · right
      rw [paired x2 b n q j h d hj]
      simp only [hh]
    · left
      unfold score
      rw [if_neg hj]

end Score

theorem result (x0 : Vec Ideal S2x16384x512 .f32) (x1 x2 : Vec Ideal S2x16384x256 .f32) (x3 : Vec Ideal S1x4 .f32)
    (b : Fin 2) (p : Fin 16384) (w : Fin 512) :
    val_main_v65 x0 x1 x2 x3 (ix3 b p w)
      = window (fun p w => x0 (ix3 b p w)) (fun p w => x1 (ix3 b p w)) (fun p w => x2 (ix3 b p w)) (fun h => x3 (ix2 0 h)) p w := by
  unfold val_main_v65
  have e := attended x0 x1 x2 x3 b
  generalize val_main_v64 x0 x1 x2 x3 = y at e ⊢
  pointwise
  rw [e]
  unfold window sunk
  have hp : (⟨128 * (p.val / 128) + p.val % 128, by omega⟩ : Fin 16384) = p := Fin.ext (by show 128 * (p.val / 128) + p.val % 128 = p.val; omega)
  have hw : 2 * (w.val / 256) + w.val / 128 % 2 = w.val / 128 := by omega
  simp only [hp, hw]

end Cert.BandRef
-- ==== Proof.BandClaim.lean ====
/-
The sliding-window attention: kernel and reference leave the same result.
-/
module

public import proofs.«01_k».proof.Proof.BandArray
public import proofs.«01_k».proof.Proof.BandRef
public import proofs.«01_k».proof.Proof.Gen.ReferenceIdeal.Run
public import proofs.«01_k».proof.Defs
public import Idealize.ShloMosaic.Lib.Quiescent

@[expose] public section

set_option maxRecDepth 16384

noncomputable section

namespace Cert.BandClaim

open Cert.KernelIdeal Cert.KernelIdeal.Gen
open Idealize.ShloMosaic Idealize.ShloMosaic.TcCoe Idealize.SL.Sem

/-- The plain program's result is the attention of every position. -/
theorem ref_attended (x0 : Vec Ideal S2x16384x512 .f32) (x1 x2 : Vec Ideal S2x16384x256 .f32) (x3 : Vec Ideal S1x4 .f32) :
    Cert.ReferenceIdeal.Read.val_main_v65 (F := Ideal) x0 x1 x2 x3 = BandArray.attended x0 x1 x2 x3 := by
  funext i
  obtain ⟨b, p, w, rfl⟩ : ∃ (b : Fin 2) (p : Fin 16384) (w : Fin 512), i = ix3 b p w :=
    ⟨i 0, i 1, i 2, funext fun a => by fin_cases a <;> rfl⟩
  exact BandRef.result x0 x1 x2 x3 b p w

theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => BandArray.attended (m ((c : Thread nD τ).loc main_arg0)) (m ((c : Thread nD τ).loc main_arg1))
    (m ((c : Thread nD τ).loc main_arg2)) (m ((c : Thread nD τ).loc main_arg3)), ?_, ?_⟩
  · exact (θ_run defs _ _).mono (fun r h c => ⟨(h c).1.trans (BandArray.final m c), (h c).2⟩) (Value.run_blocks m ρ)
  · refine (θ_run Cert.ReferenceIdeal.defs _ _).mono (fun r h c => ⟨(h c).1.trans ?_, (h c).2⟩)
      (Cert.ReferenceIdeal.Value.run (F := Ideal) m' ρ')
    obtain ⟨g0, g1, g2, g3⟩ := hagree c
    rw [Cert.ReferenceIdeal.Read.val_main_v65_eq, g0, g1, g2, g3]
    exact ref_attended ..

end Cert.BandClaim
-- ==== Proof.Ffn1Kernel.lean ====
/-
The feed-forward kernel that also hands on the next norm: its two lists of output stores, in the words of `FfnTiles`.

Its stages are those of the other feed-forward; the second output is the next norm of each finished tile.
-/
module

public import proofs.«01_k».proof.Proof.Gen.Kernel3Ideal.Value
public import proofs.«01_k».proof.Proof.FfnKernel

@[expose] public section

set_option maxRecDepth 16384

noncomputable section

namespace Cert.Ffn1Kernel

open Cert.Kernel3Ideal Cert.Kernel3Ideal.Gen Cert.FfnTiles Cert.FfnMath
open Idealize.ShloMosaic Idealize.ShloMosaic.TcCoe Idealize.SL.Sem

section Lists

variable {F : FTy → Type} [FloatOps F]
variable (a1 : Memref sig .tc .vmem S1024x1024 .f32) (h1 : a1.IsWhole)
  (a2 : Memref sig .tc .vmem S1x1024 .f32) (h2 : a2.IsWhole)
  (a3 : Memref sig .tc .vmem S1024x5632 .bf16) (h3 : a3.IsWhole)
  (a4 : Memref sig .tc .vmem S2816x1024 .bf16) (h4 : a4.IsWhole)
  (a5 : Memref sig .tc .vmem S1x1024 .f32) (h5 : a5.IsWhole)
  (a6 : Memref sig .tc .vmem S1x1024 .f32) (h6 : a6.IsWhole)
  (a9 : Memref sig .tc .vmem S4x256x1024 .bf16) (a10 : Memref sig .tc .vmem S4x256x2816 .bf16)
  (a11 : Memref sig .tc .vmem S4x256x1024 .f32)
  (x0 : Vec F S1024x1024 .f32) (x1 : Vec F S1x1024 .f32) (x2 : Vec F S1024x5632 .bf16) (x3 : Vec F S2816x1024 .bf16)
  (x4 : Vec F S1x1024 .f32) (x5 : Vec F S1x1024 .f32)

/-- The finished rows of tile `t`. -/
def done (t : Fin 4) : Vec F S256x1024 .f32 :=
  Cert.Kernel2Ideal.Gen.k0_pay98 (rows a1 h1 x0 t) (downsBack a1 h1 a2 h2 a3 h3 a4 h4 a9 a10 a11 x0 x1 x2 x3 t) (gain a5 h5 x4)

/-- The next norm's rows of the first `j` tiles. -/
def nexts (j : ℕ) (hj : j ≤ 4) : List (View.Piece (Elt F) S1024x1024 .bf16) :=
  View.tilePieces (s := S1024x1024) S256x1024.size (fun t : Fin 4 => ![256 * t.val, 0]) rows_in
    (fun t => k0_pay1 (done a1 h1 a2 h2 a3 h3 a4 h4 a5 h5 a9 a10 a11 x0 x1 x2 x3 x4 t) (gain a6 h6 x5)) j hj

/-- The printed list of stores to the stream is the uniform one. -/
theorem run_outs (c : Dev nD) (i : grid0.Coords) (a7 : Memref sig .tc .vmem S1024x1024 .f32) (h7 : a7.IsWhole)
    (a8 : Memref sig .tc .vmem S1024x1024 .bf16) (h8 : a8.IsWhole) (h9 : a9.IsWhole) (h10 : a10.IsWhole) (h11 : a11.IsWhole) :
    (kernelRun0_A c i a1 h1 a2 h2 a3 h3 a4 h4 a5 h5 a6 h6 a7 h7 a8 h8 a9 h9 a10 h10 a11 h11 x0 x1 x2 x3 x4 x5).1
      = outs a1 h1 a2 h2 a3 h3 a4 h4 a5 h5 a9 a10 a11 x0 x1 x2 x3 x4 4 (le_refl 4) := by
  sl_kernel_rfl

/-- The printed list of stores to the next norm is the uniform one. -/
theorem run_nexts (c : Dev nD) (i : grid0.Coords) (a7 : Memref sig .tc .vmem S1024x1024 .f32) (h7 : a7.IsWhole)
    (a8 : Memref sig .tc .vmem S1024x1024 .bf16) (h8 : a8.IsWhole) (h9 : a9.IsWhole) (h10 : a10.IsWhole) (h11 : a11.IsWhole) :
    (kernelRun0_A c i a1 h1 a2 h2 a3 h3 a4 h4 a5 h5 a6 h6 a7 h7 a8 h8 a9 h9 a10 h10 a11 h11 x0 x1 x2 x3 x4 x5).2.1
      = nexts a1 h1 a2 h2 a3 h3 a4 h4 a5 h5 a6 h6 a9 a10 a11 x0 x1 x2 x3 x4 x5 4 (le_refl 4) := by
  sl_kernel_rfl

end Lists

theorem next_pay (X : Vec Ideal S256x1024 .f32) (g : Vec Ideal S1x1024 .f32) (r : Fin 256) (c : Fin 1024) :
    k0_pay1 X g (ix2 r c) = rms (fun k => X (ix2 r k)) (fun k => g (ix2 0 k)) c := by
  pointwise [k0_pay1]
  rfl

section Values

variable (a1 : Memref sig .tc .vmem S1024x1024 .f32) (h1 : a1.IsWhole)
  (a2 : Memref sig .tc .vmem S1x1024 .f32) (h2 : a2.IsWhole)
  (a3 : Memref sig .tc .vmem S1024x5632 .bf16) (h3 : a3.IsWhole)
  (a4 : Memref sig .tc .vmem S2816x1024 .bf16) (h4 : a4.IsWhole)
  (a5 : Memref sig .tc .vmem S1x1024 .f32) (h5 : a5.IsWhole)
  (a6 : Memref sig .tc .vmem S1x1024 .f32) (h6 : a6.IsWhole)
  (a9 : Memref sig .tc .vmem S4x256x1024 .bf16) (a10 : Memref sig .tc .vmem S4x256x2816 .bf16)
  (a11 : Memref sig .tc .vmem S4x256x1024 .f32)
  (x0 : Vec Ideal S1024x1024 .f32) (x1 : Vec Ideal S1x1024 .f32) (x2 : Vec Ideal S1024x5632 .bf16) (x3 : Vec Ideal S2816x1024 .bf16)
  (x4 : Vec Ideal S1x1024 .f32) (x5 : Vec Ideal S1x1024 .f32)

/-- Row `r` of the finished tile `t`. -/
theorem done_apply (t : Fin 4) (r : Fin 256) (c : Fin 1024) :
    done a1 h1 a2 h2 a3 h3 a4 h4 a5 h5 a9 a10 a11 x0 x1 x2 x3 x4 t (ix2 r c)
      = ffn (fun k => x0 (ix2 ⟨256 * t.val + r.val, by omega⟩ k)) (fun k => x1 (ix2 0 k)) (fun k d => x2 (ix2 k d))
          (fun d k => x3 (ix2 d k)) (fun k => x4 (ix2 0 k)) c := by
  unfold done
  rw [FfnKernel.out_pay]
  simp only [FfnKernel.rows_apply, FfnKernel.downsBack_apply, FfnKernel.gain_apply]
  rfl

/-- Any index of the next norm's block, read through the printed list of stores. -/
theorem nexts_apply (v : View sig .tc .vmem S1024x1024 .bf16) (f : v.ty.Contents (Elt Ideal)) (r c : Fin 1024) :
    v.read (Elt Ideal) (v.writes (Elt Ideal) f (nexts a1 h1 a2 h2 a3 h3 a4 h4 a5 h5 a6 h6 a9 a10 a11 x0 x1 x2 x3 x4 x5 4 (le_refl 4))) (ix2 r c)
      = rms (ffn (fun k => x0 (ix2 r k)) (fun k => x1 (ix2 0 k)) (fun k d => x2 (ix2 k d)) (fun d k => x3 (ix2 d k)) (fun k => x4 (ix2 0 k)))
          (fun k => x5 (ix2 0 k)) c := by
  have hr := r.isLt
  let t : Fin 4 := ⟨r.val / 256, by omega⟩
  let p : Fin 256 := ⟨r.val % 256, by omega⟩
  have hrow : 256 * t.val + p.val = r.val := by show 256 * (r.val / 256) + r.val % 256 = r.val; omega
  have e := View.read_tilePieces (Val := Elt Ideal) v f S256x1024.size (fun t : Fin 4 => ![256 * t.val, 0]) rows_in
    (fun t => k0_pay1 (done a1 h1 a2 h2 a3 h3 a4 h4 a5 h5 a9 a10 a11 x0 x1 x2 x3 x4 t) (gain a6 h6 x5))
    4 (le_refl 4) (ix2 r c) t t.isLt (ix2 p c)
    (Fin.forall_fin_two.mpr ⟨hrow.symm, (Nat.zero_add _).symm⟩) 0
    (fun i hi => by
      have : i.val ≠ t.val := fun h => hi (Fin.ext h)
      show r.val < 256 * i.val ∨ 256 * i.val + 256 ≤ r.val
      have : t.val = r.val / 256 := rfl
      omega)
  refine e.trans ?_
  show k0_pay1 (done a1 h1 a2 h2 a3 h3 a4 h4 a5 h5 a9 a10 a11 x0 x1 x2 x3 x4 t) (gain a6 h6 x5) (ix2 p c) = _
  have hx : (⟨256 * t.val + p.val, by omega⟩ : Fin 1024) = r := Fin.ext hrow
  rw [next_pay]
  simp only [done_apply, FfnKernel.gain_apply, hx]

end Values

end Cert.Ffn1Kernel
-- ==== Proof.Ffn1Array.lean ====
/-
The first feed-forward's two result arrays as functions of its arguments, and its claims.
-/
module

public import proofs.«01_k».proof.Defs
public import proofs.«01_k».proof.Proof.Ffn1Kernel
public import proofs.«01_k».proof.Proof.FfnArray
public import proofs.«01_k».proof.Proof.Gen.Kernel3.Frame
public import proofs.«01_k».proof.Proof.Gen.Kernel3Ideal.Value
public import proofs.«01_k».proof.Proof.Gen.Reference3Ideal.Read
public import Idealize.ShloMosaic.Lib.Quiescent

@[expose] public section

set_option maxRecDepth 16384

noncomputable section

namespace Cert.Ffn1Array

open Cert.Kernel3Ideal Cert.Kernel3Ideal.Gen Cert.FfnMath
open Cert.FfnArray (stream)
open Idealize.ShloMosaic Idealize.ShloMosaic.TcCoe Idealize.SL.Sem
open Idealize.ShloMosaic.Pipeline (Dat)

/-- Each row of the flattened stream after the feed-forward, put through the next norm. -/
def next (x0 : Vec Ideal S2x16384x1024 .f32) (x1 : Vec Ideal S1x1024 .f32) (x2 : Vec Ideal S1x1024x5632 .f32)
    (x3 : Vec Ideal S1x2816x1024 .f32) (x4 : Vec Ideal S1x1024 .f32) (x5 : Vec Ideal S1x1024 .f32) : Vec Ideal S32768x1024 .bf16 := fun i =>
  rms (ffn (rowOf x0 ⟨(i 0).val / 16384, by have : (i 0).val < 32768 := (i 0).isLt; omega⟩ ⟨(i 0).val % 16384, by omega⟩)
    (gainOf x1) (wideOf x2) (downOf x3) (gainOf x4)) (gainOf x5) (i 1)

variable (m : (ℓ : Loc nD τ sig) → Buf (Elt Ideal) ℓ) (ρ : Dev nD → PrngReg)

/-- What the body leaves at index `(r, k)` of the stream's block, from the blocks of the inputs. -/
theorem after_stream (c : Dev nD) (t : Fin cfg0.N) (r k : Fin 1024) :
    (outsAt0 m c t).1 (ix2 r k)
      = ffn (fun j => iblk m c 0 t (ix2 r j)) (fun j => iblk m c 1 t (ix2 0 j)) (fun j d => iblk m c 2 t (ix2 j d))
          (fun d j => iblk m c 3 t (ix2 d j)) (fun j => iblk m c 4 t (ix2 0 j)) k := by
  unfold outsAt0 out0_A_6
  dsimp only
  rw [Ffn1Kernel.run_outs]
  exact FfnKernel.outs_apply ..

/-- What the body leaves at index `(r, k)` of the next norm's block. -/
theorem after_next (c : Dev nD) (t : Fin cfg0.N) (r k : Fin 1024) :
    (outsAt0 m c t).2 (ix2 r k)
      = rms (ffn (fun j => iblk m c 0 t (ix2 r j)) (fun j => iblk m c 1 t (ix2 0 j)) (fun j d => iblk m c 2 t (ix2 j d))
          (fun d j => iblk m c 3 t (ix2 d j)) (fun j => iblk m c 4 t (ix2 0 j))) (fun j => iblk m c 5 t (ix2 0 j)) k := by
  unfold outsAt0 out0_A_7
  dsimp only
  rw [Ffn1Kernel.run_nexts]
  exact Ffn1Kernel.nexts_apply ..

/-! ## The arrays at the region's entry -/

theorem entry_rows (c : Dev nD) (r : Fin 32768) (k : Fin 1024) :
    V m c main_v0 (ix2 r k) = rowOf (m ((c : Thread nD τ).loc main_arg0)) ⟨r.val / 16384, by omega⟩ ⟨r.val % 16384, by omega⟩ k := by
  entry_read
  pointwise

theorem entry_gain (c : Dev nD) (k : Fin 1024) : V m c main_v2 (ix2 0 k) = gainOf (m ((c : Thread nD τ).loc main_arg1)) k := by
  entry_read
  pointwise

theorem entry_wide (c : Dev nD) (k : Fin 1024) (d : Fin 5632) :
    V m c main_v4 (ix2 k d) = wideOf (m ((c : Thread nD τ).loc main_arg2)) k d := by
  entry_read
  pointwise

theorem entry_down (c : Dev nD) (d : Fin 2816) (k : Fin 1024) :
    V m c main_v6 (ix2 d k) = downOf (m ((c : Thread nD τ).loc main_arg3)) d k := by
  entry_read
  pointwise

theorem entry_last (c : Dev nD) (k : Fin 1024) : V m c main_v8 (ix2 0 k) = gainOf (m ((c : Thread nD τ).loc main_arg4)) k := by
  entry_read
  pointwise

theorem entry_next (c : Dev nD) (k : Fin 1024) : V m c main_v10 (ix2 0 k) = gainOf (m ((c : Thread nD τ).loc main_arg5)) k := by
  entry_read
  pointwise

/-! ## The windows' block indices -/

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![(grid0.coords t 0).val, 0] :=
  (by decide +kernel : ∀ t : Fin grid0.N, win0_6.index t = ![(grid0.coords t 0).val, 0])
theorem e7 : ∀ t : Fin cfg0.N, win0_7.index t = ![(grid0.coords t 0).val, 0] :=
  (by decide +kernel : ∀ t : Fin grid0.N, win0_7.index t = ![(grid0.coords t 0).val, 0])

theorem point_lt : ∀ t : Fin cfg0.N, (grid0.coords t 0).val < 32 :=
  (by decide +kernel : ∀ t : Fin grid0.N, (grid0.coords t 0).val < 32)

theorem blk0 (c : Dev nD) (t : Fin cfg0.N) (r k : Fin 1024) :
    iblk m c 0 t (ix2 r k) = V m c main_v0 (ix2 ⟨(grid0.coords t 0).val * 1024 + r.val, by have := point_lt t; omega⟩ k) := by
  blk_simp [iblk]
  refine congrArg (V m c main_v0) ?_
  blk_ext [e0]

theorem blk1 (c : Dev nD) (t : Fin cfg0.N) (k : Fin 1024) : iblk m c 1 t (ix2 0 k) = V m c main_v2 (ix2 0 k) := by
  blk_simp [iblk]
  refine congrArg (V m c main_v2) ?_
  blk_ext [e1]

theorem blk2 (c : Dev nD) (t : Fin cfg0.N) (k : Fin 1024) (d : Fin 5632) : iblk m c 2 t (ix2 k d) = V m c main_v4 (ix2 k d) := by
  blk_simp [iblk]
  refine congrArg (V m c main_v4) ?_
  blk_ext [e2]

theorem blk3 (c : Dev nD) (t : Fin cfg0.N) (d : Fin 2816) (k : Fin 1024) : iblk m c 3 t (ix2 d k) = V m c main_v6 (ix2 d k) := by
  blk_simp [iblk]
  refine congrArg (V m c main_v6) ?_
  blk_ext [e3]

theorem blk4 (c : Dev nD) (t : Fin cfg0.N) (k : Fin 1024) : iblk m c 4 t (ix2 0 k) = V m c main_v8 (ix2 0 k) := by
  blk_simp [iblk]
  refine congrArg (V m c main_v8) ?_
  blk_ext [e4]

theorem blk5 (c : Dev nD) (t : Fin cfg0.N) (k : Fin 1024) : iblk m c 5 t (ix2 0 k) = V m c main_v10 (ix2 0 k) := by
  blk_simp [iblk]
  refine congrArg (V m c main_v10) ?_
  blk_ext [e5]

theorem place6 (t : Fin cfg0.N) (r k : Fin 1024) :
    (win0_6.blk t).view.emb (ix2 r k) = ix2 ⟨(grid0.coords t 0).val * 1024 + r.val, by have := point_lt t; omega⟩ k := by
  blk_ext [e6]

theorem place7 (t : Fin cfg0.N) (r k : Fin 1024) :
    (win0_7.blk t).view.emb (ix2 r k) = ix2 ⟨(grid0.coords t 0).val * 1024 + r.val, by have := point_lt t; omega⟩ k := by
  blk_ext [e7]

/-- The stream after the run. -/
theorem final_stream (c : Dev nD) :
    (dats m 0 c).arrAt 6 cfg0.N
      = stream (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp
  rw [after0_6]
  obtain ⟨r, k, rfl⟩ : ∃ r k : Fin 1024, y = ix2 r k := ⟨y 0, y 1, funext fun a => by fin_cases a <;> rfl⟩
  rw [place6, after_stream]
  have p0 := fun j => (blk0 m c t r j).trans (entry_rows m c _ j)
  have p1 := fun j => (blk1 m c t j).trans (entry_gain m c j)
  have p2 := fun j d => (blk2 m c t j d).trans (entry_wide m c j d)
  have p3 := fun d j => (blk3 m c t d j).trans (entry_down m c d j)
  have p4 := fun j => (blk4 m c t j).trans (entry_last m c j)
  simp only [p0, p1, p2, p3, p4]
  rfl

/-- The next norm after the run. -/
theorem final_next (c : Dev nD) :
    (dats m 0 c).arrAt 7 cfg0.N
      = next (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  obtain ⟨r, k, rfl⟩ : ∃ r k : Fin 1024, y = ix2 r k := ⟨y 0, y 1, funext fun a => by fin_cases a <;> rfl⟩
  rw [place7, after_next]
  have p0 := fun j => (blk0 m c t r j).trans (entry_rows m c _ j)
  have p1 := fun j => (blk1 m c t j).trans (entry_gain m c j)
  have p2 := fun j d => (blk2 m c t j d).trans (entry_wide m c j d)
  have p3 := fun d j => (blk3 m c t d j).trans (entry_down m c d j)
  have p4 := fun j => (blk4 m c t j).trans (entry_last m c j)
  have p5 := fun j => (blk5 m c t j).trans (entry_next m c j)
  simp only [p0, p1, p2, p3, p4, p5]
  rfl

/-! ## The reference -/

section Reference

open Cert.Reference3Ideal.Read

variable (x0 : (⟨S2x16384x1024, .f32⟩ : BufTy).Contents (Elt Ideal)) (x1 : (⟨S1x1024, .f32⟩ : BufTy).Contents (Elt Ideal))
  (x2 : (⟨S1x1024x5632, .f32⟩ : BufTy).Contents (Elt Ideal)) (x3 : (⟨S1x2816x1024, .f32⟩ : BufTy).Contents (Elt Ideal))
  (x4 x5 : (⟨S1x1024, .f32⟩ : BufTy).Contents (Elt Ideal))

/-- Up to the residual sum the two references are the same lines. -/
theorem ref_same : val_main_v38 (F := Ideal) x0 x1 x2 x3 x4 = Cert.Reference2Ideal.Read.val_main_v38 (F := Ideal) x0 x1 x2 x3 x4 := rfl

theorem ref_stream : val_main_v53 (F := Ideal) x0 x1 x2 x3 x4 = stream x0 x1 x2 x3 x4 := by
  have h := ref_out x0 x1 x2 x3 x4
  rw [← ref_same] at h
  funext i
  obtain ⟨r, k, rfl⟩ : ∃ (r : Fin 32768) (k : Fin 1024), i = ix2 r k := ⟨i 0, i 1, funext fun a => by fin_cases a <;> rfl⟩
  unfold val_main_v53
  generalize val_main_v38 (F := Ideal) x0 x1 x2 x3 x4 = y at h ⊢
  pointwise
  simp only [h]
  rfl

theorem ref_normed_next (b : Fin 2) (s : Fin 16384) (k : Fin 1024) :
    val_main_v52 (F := Ideal) x0 x1 x2 x3 x4 x5 (ix3 b s k)
      = rms (ffn (rowOf x0 b s) (gainOf x1) (wideOf x2) (downOf x3) (gainOf x4)) (gainOf x5) k := by
  have h := ref_out x0 x1 x2 x3 x4 b s
  rw [← ref_same] at h
  unfold val_main_v52 val_main_v49 val_main_v48 val_main_v47 val_main_v46 val_main_v44 val_main_v42 val_main_v41 val_main_v40
  generalize val_main_v38 (F := Ideal) x0 x1 x2 x3 x4 = y at h ⊢
  pointwise [val_main_v51, val_main_v50, val_main_v45, val_main_v43, val_main_v39, val_main_cst_6, val_main_cst_7, val_main_cst_8]
  simp only [h]
  rfl

theorem ref_next : val_main_v55 (F := Ideal) x0 x1 x2 x3 x4 x5 = next x0 x1 x2 x3 x4 x5 := by
  have h := ref_normed_next x0 x1 x2 x3 x4 x5
  funext i
  obtain ⟨r, k, rfl⟩ : ∃ (r : Fin 32768) (k : Fin 1024), i = ix2 r k := ⟨i 0, i 1, funext fun a => by fin_cases a <;> rfl⟩
  unfold val_main_v55 val_main_v54
  generalize val_main_v52 (F := Ideal) x0 x1 x2 x3 x4 x5 = y at h ⊢
  pointwise
  simp only [h]
  rfl

end Reference

/-! ## The claims -/

theorem quiescent_kernel : Cert.quiescent_Kernel3 (hKernel3 := Cert.Kernel3.Gen.facts) :=
  fun m ρ _ => Cert.Kernel3.Gen.frame m ρ

theorem quiescent_kernelIdeal : Cert.quiescent_Kernel3Ideal (hKernel3Ideal := Cert.Kernel3Ideal.Gen.facts) :=
  fun m ρ _ => Cert.Kernel3Ideal.Gen.frame m ρ

/-- The host reference runs to the end and leaves its arguments alone. -/
theorem quiescent_reference : Cert.quiescent_Reference3Ideal (hReference3Ideal := Cert.Reference3Ideal.Gen.facts) :=
  fun m ρ _ => (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- Kernel and reference leave the same two results. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => stream (m ((c : Thread nD τ).loc main_arg0)) (m ((c : Thread nD τ).loc main_arg1))
      (m ((c : Thread nD τ).loc main_arg2)) (m ((c : Thread nD τ).loc main_arg3)) (m ((c : Thread nD τ).loc main_arg4)),
    fun c => next (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)), ?_, ?_⟩
  · exact (θ_run defs _ _).mono (fun r h c => ⟨(h c).1.trans (final_stream m c), (h c).2.1.trans (final_next m c), (h c).2.2⟩)
      (Value.run_blocks m ρ)
  · refine (θ_run Cert.Reference3Ideal.defs _ _).mono (fun r h c => ⟨(h c).1.trans ?_, (h c).2.1.trans ?_, (h c).2.2⟩)
      (Cert.Reference3Ideal.Value.run (F := Ideal) m' ρ')
    · obtain ⟨g0, g1, g2, g3, g4, g5⟩ := hagree c
      rw [Cert.Reference3Ideal.Read.val_main_v53_eq, g0, g1, g2, g3, g4]
      exact ref_stream ..
    · obtain ⟨g0, g1, g2, g3, g4, g5⟩ := hagree c
      rw [Cert.Reference3Ideal.Read.val_main_v55_eq, g0, g1, g2, g3, g4, g5]
      exact ref_next ..

end Cert.Ffn1Array
-- ==== Proof.MergeTiles.lean ====
/-
What one grid step of the merge kernel writes, as one function of the tile number.

A grid step handles 1024 rows as four tiles of 256.  The printed program writes the computation out tile by tile; here a
tile is one function of its number, and the printed list of stores is shown to be the list this function gives.
-/
module

public import proofs.«01_k».proof.Proof.Gen.Kernel4Ideal.Value

@[expose] public section

set_option maxRecDepth 16384

noncomputable section

namespace Cert.MergeTiles

open Cert.Kernel4Ideal Cert.Kernel4Ideal.Gen
open Idealize.ShloMosaic Idealize.ShloMosaic.TcCoe Idealize.SL.Sem

variable {F : FTy → Type} [FloatOps F]

theorem rows_in (t : Fin 4) (a : Fin 2) : (![256 * t.val, 0] : Fin 2 → ℕ) a + S256x1024.size a ≤ S1024x1024.size a := by
  revert t a; decide

/-- The same, counted from the last tile. -/
theorem back_in (k : Fin 4) (a : Fin 2) : (![256 * (3 - k.val), 0] : Fin 2 → ℕ) a + S256x1024.size a ≤ S1024x1024.size a := by
  revert k a; decide

theorem half_in (t : Fin 4) (a : Fin 2) : (![256 * t.val, 0] : Fin 2 → ℕ) a + S256x512.size a ≤ S1024x512.size a := by
  revert t a; decide

theorem lane_in (t : Fin 4) (n : Fin 16) (a : Fin 5) :
    (![0, n.val, t.val, 0, 0] : Fin 5 → ℕ) a + S1x1x1x16x256.size a ≤ S1x16x4x16x256.size a := by
  revert t n a; decide

theorem gate_in (j : Fin 3) (a : Fin 2) : (![0, 1024 * j.val] : Fin 2 → ℕ) a + S1024x1024.size a ≤ S1024x3072.size a := by
  revert j a; decide

theorem bias_in (j : Fin 3) (a : Fin 2) : (![0, 1024 * j.val] : Fin 2 → ℕ) a + S1x1024.size a ≤ S1x3072.size a := by
  revert j a; decide

theorem perm_in (a : Fin 2) : (![0, 0] : Fin 2 → ℕ) a + S256x256.size a ≤ S256x256.size a := by revert a; decide
theorem narrow_in (a : Fin 2) : (![0, 0] : Fin 2 → ℕ) a + S256x1024.size a ≤ S256x1024.size a := by revert a; decide
theorem wide_in (a : Fin 2) : (![0, 0] : Fin 2 → ℕ) a + S512x1024.size a ≤ S512x1024.size a := by revert a; decide
theorem square_in (a : Fin 2) : (![0, 0] : Fin 2 → ℕ) a + S1024x1024.size a ≤ S1024x1024.size a := by revert a; decide
theorem gain_in (a : Fin 2) : (![0, 0] : Fin 2 → ℕ) a + S1x1024.size a ≤ S1x1024.size a := by revert a; decide

/-- Rows `256 t … 256 t + 255` of a block of the stream. -/
def rows {e : EltTy} (x : Vec F S1024x1024 e) (t : Fin 4) : Vec F S256x1024 e :=
  View.ld x (Rect.unit (s := S1024x1024) ![256 * t.val, 0] S256x1024.size (rows_in t))

/-- The same rows of a 512 wide block. -/
def half (x : Vec F S1024x512 .bf16) (t : Fin 4) : Vec F S256x512 .bf16 :=
  View.ld x (Rect.unit (s := S1024x512) ![256 * t.val, 0] S256x512.size (half_in t))

/-- The sixteen rows of tile `t` that share the residue `n` modulo sixteen. -/
def lane (x : Vec F S1x16x4x16x256 .bf16) (t : Fin 4) (n : Fin 16) : Vec F S1x1x1x16x256 .bf16 :=
  View.ld x (Rect.unit (s := S1x16x4x16x256) ![0, n.val, t.val, 0, 0] S1x1x1x16x256.size (lane_in t n))

/-- The sixteen residues of a tile below one another. -/
def lanes (x : Vec F S1x16x4x16x256 .bf16) (t : Fin 4) : FVec F S256x256 .bf16 :=
  k0_pay10 (k0_pay3 (lane x t 0)) (k0_pay4 (lane x t 1)) (k0_pay5 (lane x t 2)) (k0_pay6 (lane x t 3)) (k0_pay7 (lane x t 4))
    (k0_pay8 (lane x t 5)) (k0_pay9 (lane x t 6)) (lane x t 7) (lane x t 8) (lane x t 9) (lane x t 10) (lane x t 11)
    (lane x t 12) (lane x t 13) (lane x t 14) (lane x t 15)

/-- The gate weights of source `j`. -/
def gateW (x : Vec F S1024x3072 .bf16) (j : Fin 3) : Vec F S1024x1024 .bf16 :=
  View.ld x (Rect.unit (s := S1024x3072) ![0, 1024 * j.val] S1024x1024.size (gate_in j))

/-- The gate bias of source `j`. -/
def gateB (x : Vec F S1x3072 .f32) (j : Fin 3) : Vec F S1x1024 .f32 :=
  View.ld x (Rect.unit (s := S1x3072) ![0, 1024 * j.val] S1x1024.size (bias_in j))

/-- A table loaded whole. -/
def perm (x : Vec F S256x256 .bf16) : Vec F S256x256 .bf16 :=
  View.ld x (Rect.unit (s := S256x256) ![0, 0] S256x256.size perm_in)
def narrow (x : Vec F S256x1024 .bf16) : Vec F S256x1024 .bf16 :=
  View.ld x (Rect.unit (s := S256x1024) ![0, 0] S256x1024.size narrow_in)
def wide (x : Vec F S512x1024 .bf16) : Vec F S512x1024 .bf16 :=
  View.ld x (Rect.unit (s := S512x1024) ![0, 0] S512x1024.size wide_in)
def square (x : Vec F S1024x1024 .bf16) : Vec F S1024x1024 .bf16 :=
  View.ld x (Rect.unit (s := S1024x1024) ![0, 0] S1024x1024.size square_in)
def gain (x : Vec F S1x1024 .f32) : Vec F S1x1024 .f32 :=
  View.ld x (Rect.unit (s := S1x1024) ![0, 0] S1x1024.size gain_in)

section Stages

variable (x0 : Vec F S1024x1024 .f32) (x1 : Vec F S1024x1024 .bf16) (x2 : Vec F S1x16x4x16x256 .bf16) (x3 x4 : Vec F S1024x512 .bf16)
  (x5 : Vec F S256x256 .bf16) (x6 : Vec F S1024x3072 .bf16) (x7 : Vec F S1x3072 .f32) (x8 : Vec F S256x1024 .bf16)
  (x9 x10 : Vec F S512x1024 .bf16) (x11 : Vec F S1024x1024 .bf16) (x12 : Vec F S1x1024 .f32)

/-- The gated dilated source of tile `t`. -/
def first (t : Fin 4) : FVec F S256x1024 .f32 :=
  k0_pay11 (k0_pay2 (rows x1 t)) (lanes x2 t) (perm x5) (gateW x6 0) (gateB x7 0) (narrow x8)

/-- The gate of the second source. -/
def second (t : Fin 4) : FVec F S256x1024 .f32 := k0_pay12 (k0_pay2 (rows x1 t)) (gateW x6 1) (gateB x7 1)

/-- The three gated sources summed and projected. -/
def merged (t : Fin 4) : FVec F S256x1024 .f32 :=
  k0_pay14 (k0_pay2 (rows x1 t)) (first x1 x2 x5 x6 x7 x8 t) (second x1 x6 x7 t) (k0_pay13 (half x3 t)) (wide x9) (gateW x6 2)
    (gateB x7 2) (half x4 t) (wide x10) (square x11)

/-- The sum of squares of every merged row. -/
def squares (t : Fin 4) : FVec F S256 .f32 :=
  k0_pay17 (k0_pay2 (rows x1 t)) (first x1 x2 x5 x6 x7 x8 t) (second x1 x6 x7 t) (k0_pay13 (half x3 t)) (wide x9) (gateW x6 2)
    (gateB x7 2) (half x4 t) (wide x10) (square x11)

/-- What the step stores for tile `t`. -/
def tile (t : Fin 4) : FVec F S256x1024 .f32 :=
  k0_pay18 (merged x1 x2 x3 x4 x5 x6 x7 x8 x9 x10 x11 t) (k0_pay15 (rows x0 t)) (k0_pay16 (gain x12))
    (squares x1 x2 x3 x4 x5 x6 x7 x8 x9 x10 x11 t)

/-- The printed list of output stores, last tile first, is the uniform one. -/
theorem out_eq : out0_13 x0 x1 x2 x3 x4 x5 x6 x7 x8 x9 x10 x11 x12
    = View.canon (List.ofFn fun k : Fin 4 => (⟨Rect.unit (s := S1024x1024) ![256 * (3 - k.val), 0] S256x1024.size (back_in k),
        tile x0 x1 x2 x3 x4 x5 x6 x7 x8 x9 x10 x11 x12 (Fin.rev k)⟩ : View.Piece (Elt F) S1024x1024 .f32)) := by
  unfold out0_13
  refine congrArg View.canon ?_
  sl_kernel_rfl

end Stages

end Cert.MergeTiles
-- ==== Proof.MergeMath.lean ====
/-
The gated merge of one row, over the extended reals, and what the reference computes in those words.
-/
module

public import proofs.«01_k».proof.Proof.FfnMath
public import proofs.«01_k».proof.Proof.Gen.Reference4Ideal.Read
public import Idealize.ShloMosaic.Lib.Pointwise

@[expose] public section

set_option maxRecDepth 16384

noncomputable section

namespace Cert.MergeMath

open Idealize.ShloMosaic Idealize.ShloMosaic.TcCoe Idealize.SL.Sem
open Cert.FfnMath (rms dense)

/-- Column `c` of the gate of source `j`. -/
def gateCol (j : Fin 3) (c : Fin 1024) : Fin 3072 := ⟨1024 * j.val + c.val, by have := j.isLt; have := c.isLt; omega⟩

/-- The gate of source `j`: a logistic function of the normalised row. -/
def gate (u : Fin 1024 → EReal) (W : Fin 1024 → Fin 3072 → EReal) (b : Fin 3072 → EReal) (j : Fin 3) (c : Fin 1024) : EReal :=
  Ideal.div 1 (1 + Ideal.exp (-(dense u W (gateCol j c) + b (gateCol j c))))

/-- The three sources, each through its own projection and gate, added up. -/
def mixed (u : Fin 1024 → EReal) (W : Fin 1024 → Fin 3072 → EReal) (b : Fin 3072 → EReal)
    (oa : Fin 256 → EReal) (A : Fin 256 → Fin 1024 → EReal) (ob : Fin 512 → EReal) (B : Fin 512 → Fin 1024 → EReal)
    (om : Fin 512 → EReal) (M : Fin 512 → Fin 1024 → EReal) (c : Fin 1024) : EReal :=
  gate u W b 0 c * dense oa A c + gate u W b 1 c * dense ob B c + gate u W b 2 c * dense om M c

/-- The whole merge of a row: the row plus the normalised projection of the mixed sources. -/
def merge (h u : Fin 1024 → EReal) (W : Fin 1024 → Fin 3072 → EReal) (b : Fin 3072 → EReal)
    (oa : Fin 256 → EReal) (A : Fin 256 → Fin 1024 → EReal) (ob : Fin 512 → EReal) (B : Fin 512 → Fin 1024 → EReal)
    (om : Fin 512 → EReal) (M : Fin 512 → Fin 1024 → EReal) (O : Fin 1024 → Fin 1024 → EReal) (g : Fin 1024 → EReal)
    (c : Fin 1024) : EReal :=
  h c + rms (dense (mixed u W b oa A ob B om M) O) g c

/-- The sequence a row of the flattened stream belongs to, and its position there. -/
def seqOf (r : Fin 32768) : Fin 2 := ⟨r.val / 16384, by have := r.isLt; omega⟩
def posOf (r : Fin 32768) : Fin 16384 := ⟨r.val % 16384, by omega⟩

section Reference

open Cert.Reference4Ideal Cert.Reference4Ideal.Gen Cert.Reference4Ideal.Read

variable (x0 x1 : (⟨S2x16384x1024, .f32⟩ : BufTy).Contents (Elt Ideal)) (x2 : (⟨S2x16384x256, .f32⟩ : BufTy).Contents (Elt Ideal))
  (x3 x4 : (⟨S2x16384x512, .f32⟩ : BufTy).Contents (Elt Ideal)) (x5 : (⟨S1x1024x3072, .f32⟩ : BufTy).Contents (Elt Ideal))
  (x6 : (⟨S1x3072, .f32⟩ : BufTy).Contents (Elt Ideal)) (x7 : (⟨S1x256x1024, .f32⟩ : BufTy).Contents (Elt Ideal))
  (x8 x9 : (⟨S1x512x1024, .f32⟩ : BufTy).Contents (Elt Ideal)) (x10 : (⟨S1x1024x1024, .f32⟩ : BufTy).Contents (Elt Ideal))
  (x11 : (⟨S1x1024, .f32⟩ : BufTy).Contents (Elt Ideal))

/-- The arguments as the rows and tables of `merge`. -/
abbrev rowOf (x : (⟨S2x16384x1024, .f32⟩ : BufTy).Contents (Elt Ideal)) (b : Fin 2) (s : Fin 16384) (k : Fin 1024) : EReal := x (ix3 b s k)
abbrev aOf (b : Fin 2) (s : Fin 16384) (k : Fin 256) : EReal := x2 (ix3 b s k)
abbrev halfOf (x : (⟨S2x16384x512, .f32⟩ : BufTy).Contents (Elt Ideal)) (b : Fin 2) (s : Fin 16384) (k : Fin 512) : EReal := x (ix3 b s k)
abbrev gateOf (k : Fin 1024) (d : Fin 3072) : EReal := x5 (ix3 0 k d)
abbrev biasOf (d : Fin 3072) : EReal := x6 (ix2 0 d)
abbrev narrowOf (k : Fin 256) (d : Fin 1024) : EReal := x7 (ix3 0 k d)
abbrev wideOf (x : (⟨S1x512x1024, .f32⟩ : BufTy).Contents (Elt Ideal)) (k : Fin 512) (d : Fin 1024) : EReal := x (ix3 0 k d)
abbrev squareOf (k d : Fin 1024) : EReal := x10 (ix3 0 k d)
abbrev gainOf (k : Fin 1024) : EReal := x11 (ix2 0 k)

/-- The gates of all three sources side by side. -/
theorem ref_gates (b : Fin 2) (s : Fin 16384) (d : Fin 3072) :
    val_main_v11 (F := Ideal) x1 x5 x6 (ix3 b s d)
      = Ideal.div 1 (1 + Ideal.exp (-(dense (rowOf x1 b s) (gateOf x5) d + biasOf x6 d))) := by
  pointwise [val_main_v11, val_main_v10, val_main_v9, val_main_v8, val_main_v7, val_main_v6, val_main_v5, val_main_v4, val_main_v3,
    val_main_v2, val_main_v1, val_main_v0, val_main_cst, val_main_cst_0]
  rfl

theorem ref_gate0 (b : Fin 2) (s : Fin 16384) (c : Fin 1024) :
    val_main_v12 (F := Ideal) x1 x5 x6 (ix3 b s c) = gate (rowOf x1 b s) (gateOf x5) (biasOf x6) 0 c := by
  have h := ref_gates x1 x5 x6 b s
  unfold val_main_v12
  generalize val_main_v11 (F := Ideal) x1 x5 x6 = y at h ⊢
  pointwise
  have e : gateCol 0 c = ⟨c.val, by have := c.isLt; omega⟩ := Fin.ext (Nat.zero_add _)
  rw [h]
  unfold gate
  rw [e]

theorem ref_gate1 (b : Fin 2) (s : Fin 16384) (c : Fin 1024) :
    val_main_v13 (F := Ideal) x1 x5 x6 (ix3 b s c) = gate (rowOf x1 b s) (gateOf x5) (biasOf x6) 1 c := by
  have h := ref_gates x1 x5 x6 b s
  unfold val_main_v13
  generalize val_main_v11 (F := Ideal) x1 x5 x6 = y at h ⊢
  pointwise
  rw [h]
  rfl

theorem ref_gate2 (b : Fin 2) (s : Fin 16384) (c : Fin 1024) :
    val_main_v14 (F := Ideal) x1 x5 x6 (ix3 b s c) = gate (rowOf x1 b s) (gateOf x5) (biasOf x6) 2 c := by
  have h := ref_gates x1 x5 x6 b s
  unfold val_main_v14
  generalize val_main_v11 (F := Ideal) x1 x5 x6 = y at h ⊢
  pointwise
  rw [h]
  rfl

theorem ref_a (b : Fin 2) (s : Fin 16384) (c : Fin 1024) :
    val_main_v16 (F := Ideal) x2 x7 (ix3 b s c) = dense (aOf x2 b s) (narrowOf x7) c := by
  pointwise [val_main_v16, val_main_v15]
  rfl

theorem ref_b (b : Fin 2) (s : Fin 16384) (c : Fin 1024) :
    val_main_v19 (F := Ideal) x3 x8 (ix3 b s c) = dense (halfOf x3 b s) (wideOf x8) c := by
  pointwise [val_main_v19, val_main_v18]
  rfl

theorem ref_m (b : Fin 2) (s : Fin 16384) (c : Fin 1024) :
    val_main_v23 (F := Ideal) x4 x9 (ix3 b s c) = dense (halfOf x4 b s) (wideOf x9) c := by
  pointwise [val_main_v23, val_main_v22]
  rfl

theorem ref_mixed (b : Fin 2) (s : Fin 16384) (c : Fin 1024) :
    val_main_v25 (F := Ideal) x1 x2 x3 x4 x5 x6 x7 x8 x9 (ix3 b s c)
      = mixed (rowOf x1 b s) (gateOf x5) (biasOf x6) (aOf x2 b s) (narrowOf x7) (halfOf x3 b s) (wideOf x8) (halfOf x4 b s) (wideOf x9) c := by
  have g0 := ref_gate0 x1 x5 x6 b s c
  have g1 := ref_gate1 x1 x5 x6 b s c
  have g2 := ref_gate2 x1 x5 x6 b s c
  have a := ref_a x2 x7 b s c
  have p := ref_b x3 x8 b s c
  have q := ref_m x4 x9 b s c
  unfold val_main_v25 val_main_v24 val_main_v21 val_main_v20 val_main_v17
  generalize val_main_v12 (F := Ideal) x1 x5 x6 = y0 at g0 ⊢
  generalize val_main_v13 (F := Ideal) x1 x5 x6 = y1 at g1 ⊢
  generalize val_main_v14 (F := Ideal) x1 x5 x6 = y2 at g2 ⊢
  generalize val_main_v16 (F := Ideal) x2 x7 = z0 at a ⊢
  generalize val_main_v19 (F := Ideal) x3 x8 = z1 at p ⊢
  generalize val_main_v23 (F := Ideal) x4 x9 = z2 at q ⊢
  pointwise
  rw [g0, g1, g2, a, p, q]
  rfl

theorem ref_projected (b : Fin 2) (s : Fin 16384) (c : Fin 1024) :
    val_main_v27 (F := Ideal) x1 x2 x3 x4 x5 x6 x7 x8 x9 x10 (ix3 b s c)
      = dense (mixed (rowOf x1 b s) (gateOf x5) (biasOf x6) (aOf x2 b s) (narrowOf x7) (halfOf x3 b s) (wideOf x8) (halfOf x4 b s) (wideOf x9))
          (squareOf x10) c := by
  have h := ref_mixed x1 x2 x3 x4 x5 x6 x7 x8 x9 b s
  unfold val_main_v27
  generalize val_main_v25 (F := Ideal) x1 x2 x3 x4 x5 x6 x7 x8 x9 = y at h ⊢
  pointwise [val_main_v26]
  simp only [h]
  rfl

theorem ref_out (b : Fin 2) (s : Fin 16384) (c : Fin 1024) :
    val_main_v42 (F := Ideal) x0 x1 x2 x3 x4 x5 x6 x7 x8 x9 x10 x11 (ix3 b s c)
      = merge (rowOf x0 b s) (rowOf x1 b s) (gateOf x5) (biasOf x6) (aOf x2 b s) (narrowOf x7) (halfOf x3 b s) (wideOf x8) (halfOf x4 b s)
          (wideOf x9) (squareOf x10) (gainOf x11) c := by
  have h := ref_projected x1 x2 x3 x4 x5 x6 x7 x8 x9 x10 b s
  unfold val_main_v42 val_main_v41 val_main_v38 val_main_v37 val_main_v36 val_main_v35 val_main_v33 val_main_v31 val_main_v30 val_main_v29
  generalize val_main_v27 (F := Ideal) x1 x2 x3 x4 x5 x6 x7 x8 x9 x10 = y at h ⊢
  pointwise [val_main_v40, val_main_v39, val_main_v34, val_main_v32, val_main_v28, val_main_cst_1, val_main_cst_2, val_main_cst_3]
  simp only [h]
  rfl

/-- The reference's result: row `r` of the flattened stream is row `r % 16384` of sequence `r / 16384`. -/
theorem ref_flat (r : Fin 32768) (c : Fin 1024) :
    val_main_v43 (F := Ideal) x0 x1 x2 x3 x4 x5 x6 x7 x8 x9 x10 x11 (ix2 r c)
      = merge (rowOf x0 (seqOf r) (posOf r)) (rowOf x1 (seqOf r) (posOf r)) (gateOf x5) (biasOf x6) (aOf x2 (seqOf r) (posOf r)) (narrowOf x7)
          (halfOf x3 (seqOf r) (posOf r)) (wideOf x8) (halfOf x4 (seqOf r) (posOf r)) (wideOf x9) (squareOf x10) (gainOf x11) c := by
  have h := ref_out x0 x1 x2 x3 x4 x5 x6 x7 x8 x9 x10 x11
  unfold val_main_v43
  generalize val_main_v42 (F := Ideal) x0 x1 x2 x3 x4 x5 x6 x7 x8 x9 x10 x11 = y at h ⊢
  pointwise
  rw [h]
  rfl

end Reference

end Cert.MergeMath
-- ==== Proof.MergeKernel.lean ====
/-
What the merge kernel stores at an index of its output block: `merge` of the row, the dilated source's row being the one
the permutation table picks.
-/
module

public import proofs.«01_k».proof.Proof.MergeTiles
public import proofs.«01_k».proof.Proof.MergeMath
public import Idealize.ShloMosaic.Lib.Pointwise
public import Idealize.ShloMosaic.Lib.Claim
public import Idealize.ShloMosaic.Lib.Pipeline.ValueKit
public import Idealize.ShloMosaic.Lib.Pipeline.Value

@[expose] public section

set_option maxRecDepth 16384

noncomputable section

namespace Cert.MergeKernel

open Cert.Kernel4Ideal Cert.Kernel4Ideal.Gen Cert.MergeTiles Cert.MergeMath
open Cert.FfnMath (rms dense)
open Idealize.ShloMosaic Idealize.ShloMosaic.TcCoe Idealize.SL.Sem

/-- The logistic function as the kernel writes it. -/
def logistic (x : EReal) : EReal := Ideal.div 1 (1 + Ideal.exp (-x))

/-! ## The payloads at an index -/

theorem first_pay (U : Vec Ideal S256x1024 .bf16) (L : FVec Ideal S256x256 .bf16) (P : Vec Ideal S256x256 .bf16)
    (W : Vec Ideal S1024x1024 .bf16) (b : Vec Ideal S1x1024 .f32) (A : Vec Ideal S256x1024 .bf16) (r : Fin 256) (c : Fin 1024) :
    k0_pay11 (k0_pay2 U) L P W b A (ix2 r c)
      = logistic (dense (fun k => U (ix2 r k)) (fun k d => W (ix2 k d)) c + b (ix2 0 c))
          * dense (fun k => ∑ q : Fin 256, P (ix2 r q) * L (ix2 q k)) (fun k d => A (ix2 k d)) c := by
  pointwise [k0_pay11, k0_pay2]
  rw [zero_sub]
  rfl

theorem second_pay (U : Vec Ideal S256x1024 .bf16) (W : Vec Ideal S1024x1024 .bf16) (b : Vec Ideal S1x1024 .f32) (r : Fin 256) (c : Fin 1024) :
    k0_pay12 (k0_pay2 U) W b (ix2 r c)
      = logistic (dense (fun k => U (ix2 r k)) (fun k d => W (ix2 k d)) c + b (ix2 0 c)) := by
  pointwise [k0_pay12, k0_pay2]
  rw [zero_sub]
  rfl

theorem merged_pay (U : Vec Ideal S256x1024 .bf16) (X Y : FVec Ideal S256x1024 .f32) (p : Vec Ideal S256x512 .bf16)
    (B : Vec Ideal S512x1024 .bf16) (W : Vec Ideal S1024x1024 .bf16) (b : Vec Ideal S1x1024 .f32) (q : Vec Ideal S256x512 .bf16)
    (M : Vec Ideal S512x1024 .bf16) (O : Vec Ideal S1024x1024 .bf16) (r : Fin 256) (c : Fin 1024) :
    k0_pay14 (k0_pay2 U) X Y (k0_pay13 p) B W b q M O (ix2 r c)
      = dense (fun k => X (ix2 r k) + Y (ix2 r k) * dense (fun i => p (ix2 r i)) (fun i d => B (ix2 i d)) k
            + logistic (dense (fun i => U (ix2 r i)) (fun i d => W (ix2 i d)) k + b (ix2 0 k)) * dense (fun i => q (ix2 r i)) (fun i d => M (ix2 i d)) k)
          (fun k d => O (ix2 k d)) c := by
  pointwise [k0_pay14, k0_pay13, k0_pay2]
  simp only [zero_sub]
  rfl

theorem tile_pay (Z : FVec Ideal S256x1024 .f32) (H : Vec Ideal S256x1024 .f32) (g : Vec Ideal S1x1024 .f32) (S : FVec Ideal S256 .f32)
    (hS : ∀ r, S (ix1 r) = ∑ k : Fin 1024, Z (ix2 r k) * Z (ix2 r k)) (r : Fin 256) (c : Fin 1024) :
    k0_pay18 Z (k0_pay15 H) (k0_pay16 g) S (ix2 r c) = H (ix2 r c) + rms (fun k => Z (ix2 r k)) (fun k => g (ix2 0 k)) c := by
  pointwise [k0_pay18, k0_pay15, k0_pay16]
  rw [hS]
  rfl

/-! ## What the loads read -/

theorem rows_apply {e : EltTy} (x : Vec Ideal S1024x1024 e) (t : Fin 4) (r : Fin 256) (c : Fin 1024) :
    rows x t (ix2 r c) = x (ix2 ⟨256 * t.val + r.val, by omega⟩ c) := by
  unfold rows
  pointwise

theorem half_apply (x : Vec Ideal S1024x512 .bf16) (t : Fin 4) (r : Fin 256) (c : Fin 512) :
    half x t (ix2 r c) = x (ix2 ⟨256 * t.val + r.val, by omega⟩ c) := by
  unfold half
  pointwise

theorem gateW_apply (x : Vec Ideal S1024x3072 .bf16) (j : Fin 3) (k c : Fin 1024) : gateW x j (ix2 k c) = x (ix2 k (gateCol j c)) := by
  unfold gateW
  pointwise
  rfl

theorem gateB_apply (x : Vec Ideal S1x3072 .f32) (j : Fin 3) (c : Fin 1024) : gateB x j (ix2 0 c) = x (ix2 0 (gateCol j c)) := by
  unfold gateB
  pointwise
  rfl

theorem perm_apply (x : Vec Ideal S256x256 .bf16) (k c : Fin 256) : perm x (ix2 k c) = x (ix2 k c) := by
  unfold perm
  pointwise

theorem narrow_apply (x : Vec Ideal S256x1024 .bf16) (k : Fin 256) (c : Fin 1024) : narrow x (ix2 k c) = x (ix2 k c) := by
  unfold narrow
  pointwise

theorem wide_apply (x : Vec Ideal S512x1024 .bf16) (k : Fin 512) (c : Fin 1024) : wide x (ix2 k c) = x (ix2 k c) := by
  unfold wide
  pointwise

theorem square_apply (x : Vec Ideal S1024x1024 .bf16) (k c : Fin 1024) : square x (ix2 k c) = x (ix2 k c) := by
  unfold square
  pointwise

theorem gain_apply (x : Vec Ideal S1x1024 .f32) (c : Fin 1024) : gain x (ix2 0 c) = x (ix2 0 c) := by
  unfold gain
  pointwise

/-- Row `r` of residue `n`, as a plain row. -/
theorem lane_apply (x : Vec Ideal S1x16x4x16x256 .bf16) (t : Fin 4) (n r : Fin 16) (k : Fin 256) :
    k0_pay3 (lane x t n) (ix2 r k) = x (ix5 0 n t r k) := by
  unfold lane
  pointwise [k0_pay3]

/-- Sixteen pieces of sixteen rows make 256 rows, whatever they hold. -/
theorem glue (f : Fin 16 → FVec Ideal S16x256 .bf16) :
    Shape.Concatenates ((List.ofFn fun n : Fin 16 => (⟨S16x256, f n⟩ : (s : Shape) × (s.Idx → Elt Ideal .bf16))).map (·.1)) S256x256 0 :=
  concatenates_S16x256_S16x256_S16x256_S16x256_S16x256_S16x256_S16x256_S16x256_S16x256_S16x256_S16x256_S16x256_S16x256_S16x256_S16x256_S16x256_S256x256_d0

theorem lanes_eq (x : Vec Ideal S1x16x4x16x256 .bf16) (t : Fin 4) :
    lanes x t = concatenate S256x256 0 (List.ofFn fun n : Fin 16 =>
      (⟨S16x256, k0_pay3 (lane x t n)⟩ : (s : Shape) × (s.Idx → Elt Ideal .bf16))) (glue fun n => k0_pay3 (lane x t n)) := rfl

/-- Row `q` of the glued residues: residue `q / 16`, its row `q % 16`. -/
theorem lanes_apply (x : Vec Ideal S1x16x4x16x256 .bf16) (t : Fin 4) (q k : Fin 256) :
    lanes x t (ix2 q k) = x (ix5 0 ⟨q.val / 16, by omega⟩ t ⟨q.val % 16, by omega⟩ k) := by
  rw [lanes_eq]
  refine (concatenate_ofFn_apply 0 (fun n : Fin 16 => k0_pay3 (lane x t n)) (glue _) rfl 16 rfl (ix2 q k) ⟨q.val / 16, by omega⟩ rfl
    (ix2 ⟨q.val % 16, by omega⟩ k) rfl ?_).trans (lane_apply x t _ _ k)
  intro b hb
  match b with
  | ⟨0, _⟩ => exact absurd rfl hb
  | ⟨1, _⟩ => rfl

/-- Four stores of 256 rows, the last tile first, read at an index. -/
theorem canon_rows (P : Fin 4 → FVec Ideal S256x1024 .f32) (r c : Fin 1024) (v : Elt Ideal .f32)
    (h : ∀ (k : Fin 4) (p : Fin 256), r.val = 256 * (3 - k.val) + p.val → P k (ix2 p c) = v) :
    View.canon (List.ofFn fun k : Fin 4 => (⟨Rect.unit (s := S1024x1024) ![256 * (3 - k.val), 0] S256x1024.size (back_in k), P k⟩ :
      View.Piece (Elt Ideal) S1024x1024 .f32)) (ix2 r c) = v := by
  have hr := r.isLt
  refine View.canon_ofFn_unit_eq_of_forall (Val := Elt Ideal) (e := .f32) (N := 4) (S := S1024x1024) (fun k : Fin 4 => ![256 * (3 - k.val), 0]) S256x1024.size back_in P (ix2 r c) v
    ⟨⟨3 - r.val / 256, by omega⟩, Fin.forall_fin_two.mpr ⟨?_, ?_⟩⟩ ?_
  · show 256 * (3 - (3 - r.val / 256)) ≤ r.val ∧ r.val < 256 * (3 - (3 - r.val / 256)) + 256
    omega
  · show 0 ≤ c.val ∧ c.val < 0 + 1024
    have := c.isLt
    omega
  · intro k x hx
    obtain ⟨p, d, rfl⟩ : ∃ (p : Fin 256) (d : Fin 1024), x = ix2 p d := ⟨x 0, x 1, funext fun a => by fin_cases a <;> rfl⟩
    have h0 : r.val = 256 * (3 - k.val) + p.val := hx 0
    have h1 : c.val = 0 + d.val := hx 1
    obtain rfl : c = d := Fin.ext (h1.trans (Nat.zero_add _))
    exact h k p h0

section Stages

variable (x0 : Vec Ideal S1024x1024 .f32) (x1 : Vec Ideal S1024x1024 .bf16) (x2 : Vec Ideal S1x16x4x16x256 .bf16)
  (x3 x4 : Vec Ideal S1024x512 .bf16) (x5 : Vec Ideal S256x256 .bf16) (x6 : Vec Ideal S1024x3072 .bf16) (x7 : Vec Ideal S1x3072 .f32)
  (x8 : Vec Ideal S256x1024 .bf16) (x9 x10 : Vec Ideal S512x1024 .bf16) (x11 : Vec Ideal S1024x1024 .bf16) (x12 : Vec Ideal S1x1024 .f32)

/-- The row of the dilated source that row `r` of the block takes, through the permutation table. -/
def picked (r : Fin 1024) (k : Fin 256) : EReal :=
  ∑ q : Fin 256, HMul.hMul (α := EReal) (x5 (ix2 ⟨r.val % 256, by omega⟩ q))
    (x2 (ix5 0 ⟨q.val / 16, by omega⟩ ⟨r.val / 256, by omega⟩ ⟨q.val % 16, by omega⟩ k))

/-- The merged row in the blocks of one step. -/
abbrev mergedRow (r : Fin 1024) : Fin 1024 → EReal :=
  dense (mixed (fun k => x1 (ix2 r k)) (fun k d => x6 (ix2 k d)) (fun d => x7 (ix2 0 d)) (picked x2 x5 r) (fun k d => x8 (ix2 k d))
    (fun k => x3 (ix2 r k)) (fun k d => x9 (ix2 k d)) (fun k => x4 (ix2 r k)) (fun k d => x10 (ix2 k d))) (fun k d => x11 (ix2 k d))

theorem merged_apply (t : Fin 4) (p : Fin 256) (r : Fin 1024) (hr : r.val = 256 * t.val + p.val) (c : Fin 1024) :
    merged x1 x2 x3 x4 x5 x6 x7 x8 x9 x10 x11 t (ix2 p c) = mergedRow x1 x2 x3 x4 x5 x6 x7 x8 x9 x10 x11 r c := by
  have e : (⟨256 * t.val + p.val, by omega⟩ : Fin 1024) = r := Fin.ext hr.symm
  have et : (⟨r.val / 256, by omega⟩ : Fin 4) = t := Fin.ext (by show r.val / 256 = t.val; omega)
  have ep : (⟨r.val % 256, by omega⟩ : Fin 256) = p := Fin.ext (by show r.val % 256 = p.val; omega)
  have hp : picked x2 x5 r = fun k => ∑ q : Fin 256, perm x5 (ix2 p q) * lanes x2 t (ix2 q k) := by
    funext k
    unfold picked
    rw [et, ep]
    simp only [perm_apply, lanes_apply]
  unfold merged
  rw [merged_pay]
  unfold first second
  simp only [first_pay, second_pay, rows_apply, half_apply, gateW_apply, gateB_apply, narrow_apply, wide_apply, square_apply, e]
  unfold mergedRow
  rw [hp]
  rfl

/-- Any index of the output block. -/
theorem tile_apply (t : Fin 4) (p : Fin 256) (r : Fin 1024) (hr : r.val = 256 * t.val + p.val) (c : Fin 1024) :
    tile x0 x1 x2 x3 x4 x5 x6 x7 x8 x9 x10 x11 x12 t (ix2 p c)
      = x0 (ix2 r c) + rms (mergedRow x1 x2 x3 x4 x5 x6 x7 x8 x9 x10 x11 r) (fun k => x12 (ix2 0 k)) c := by
  have e : (⟨256 * t.val + p.val, by omega⟩ : Fin 1024) = r := Fin.ext hr.symm
  unfold tile
  rw [tile_pay _ _ _ _ (fun r => by unfold squares; pointwise [k0_pay17]; rfl)]
  simp only [merged_apply x1 x2 x3 x4 x5 x6 x7 x8 x9 x10 x11 t p r hr, rows_apply, gain_apply, e]

theorem out_apply (r c : Fin 1024) :
    out0_13 x0 x1 x2 x3 x4 x5 x6 x7 x8 x9 x10 x11 x12 (ix2 r c)
      = x0 (ix2 r c) + rms (mergedRow x1 x2 x3 x4 x5 x6 x7 x8 x9 x10 x11 r) (fun k => x12 (ix2 0 k)) c := by
  rw [out_eq]
  exact canon_rows (fun k => tile x0 x1 x2 x3 x4 x5 x6 x7 x8 x9 x10 x11 x12 (Fin.rev k)) r c _ fun k p h =>
    tile_apply x0 x1 x2 x3 x4 x5 x6 x7 x8 x9 x10 x11 x12 (Fin.rev k) p r (by rw [Fin.val_rev]; omega) c

end Stages

end Cert.MergeKernel
-- ==== Proof.MergeWord.lean ====
/-
The words of the merge kernel's permutation table: row `p` has its one in column `(p % 16) * 16 + p / 16`, and zeros elsewhere.
-/
module

public import proofs.«01_k».proof.Kernel4Ideal

@[expose] public section

set_option maxRecDepth 16384

namespace Cert.MergeTable

open Cert.Kernel4Ideal

/-- The word at row `p`, column `q`. -/
def word (p q : ℕ) : BitVec 32 := if q = p % 16 * 16 + p / 16 then 0x3F800000#32 else 0#32

/-- The literal holds these words in the 32 rows of group `g`. -/
abbrev Rows (g : ℕ) : Prop := ∀ p : Fin 32, ∀ q : Fin 256, lit0t (256 * (32 * g + p.val) + q.val) = word (32 * g + p.val) q.val

end Cert.MergeTable
-- ==== Proof.MergeTableA.lean ====
/-
Rows 0 to 63 of the merge kernel's permutation table, by evaluation.
-/
module

public import proofs.«01_k».proof.Proof.MergeWord

@[expose] public section

set_option maxRecDepth 16384

namespace Cert.MergeTable

open Cert.Kernel4Ideal

theorem rows0 : Rows 0 := by decide +kernel
theorem rows1 : Rows 1 := by decide +kernel

end Cert.MergeTable
-- ==== Proof.MergeTableB.lean ====
/-
Rows 64 to 127 of the merge kernel's permutation table, by evaluation.
-/
module

public import proofs.«01_k».proof.Proof.MergeWord

@[expose] public section

set_option maxRecDepth 16384

namespace Cert.MergeTable

open Cert.Kernel4Ideal

theorem rows2 : Rows 2 := by decide +kernel
theorem rows3 : Rows 3 := by decide +kernel

end Cert.MergeTable
-- ==== Proof.MergeTableC.lean ====
/-
Rows 128 to 191 of the merge kernel's permutation table, by evaluation.
-/
module

public import proofs.«01_k».proof.Proof.MergeTableA

@[expose] public section

set_option maxRecDepth 16384

namespace Cert.MergeTable

open Cert.Kernel4Ideal

theorem rows4 : Rows 4 := by decide +kernel
theorem rows5 : Rows 5 := by decide +kernel

end Cert.MergeTable
-- ==== Proof.MergeTableD.lean ====
/-
Rows 192 to 255 of the merge kernel's permutation table, by evaluation.
-/
module

public import proofs.«01_k».proof.Proof.MergeTableB

@[expose] public section

set_option maxRecDepth 16384

namespace Cert.MergeTable

open Cert.Kernel4Ideal

theorem rows6 : Rows 6 := by decide +kernel
theorem rows7 : Rows 7 := by decide +kernel

end Cert.MergeTable
-- ==== Proof.MergeTable.lean ====
/-
The merge kernel's permutation table: the ranges of its rows together.

The table is a literal of 65536 words.  It is decided over ranges of rows, each range by evaluation.
-/
module

public import proofs.«01_k».proof.Proof.MergeTableA
public import proofs.«01_k».proof.Proof.MergeTableB
public import proofs.«01_k».proof.Proof.MergeTableC
public import proofs.«01_k».proof.Proof.MergeTableD

@[expose] public section

set_option maxRecDepth 16384

namespace Cert.MergeTable

open Cert.Kernel4Ideal

/-- The ranges together. -/
theorem rows (g : ℕ) (hg : g < 8) : Rows g := by
  have h : g = 0 ∨ g = 1 ∨ g = 2 ∨ g = 3 ∨ g = 4 ∨ g = 5 ∨ g = 6 ∨ g = 7 := by omega
  rcases h with rfl | rfl | rfl | rfl | rfl | rfl | rfl | rfl
  exacts [rows0, rows1, rows2, rows3, rows4, rows5, rows6, rows7]

theorem table (p q : Fin 256) : lit0t (256 * p.val + q.val) = word p.val q.val := by
  have hp := p.isLt
  have h := rows (p.val / 32) (by omega) ⟨p.val % 32, by omega⟩ q
  have e : 32 * (p.val / 32) + (⟨p.val % 32, by omega⟩ : Fin 32).val = p.val := by show 32 * (p.val / 32) + p.val % 32 = p.val; omega
  rw [e] at h
  exact h

end Cert.MergeTable
-- ==== Proof.MergeArray.lean ====
/-
The merge kernel's result array as one function of its arguments, and its claims.
-/
module

public import proofs.«01_k».proof.Defs
public import proofs.«01_k».proof.Proof.MergeKernel
public import proofs.«01_k».proof.Proof.MergeTable
public import proofs.«01_k».proof.Proof.Gen.Kernel4.Frame
public import proofs.«01_k».proof.Proof.Gen.Kernel4Ideal.Value
public import proofs.«01_k».proof.Proof.Gen.Reference4Ideal.Run
public import Idealize.ShloMosaic.Lib.Quiescent

@[expose] public section

set_option maxRecDepth 16384

noncomputable section

namespace Cert.MergeArray

open Cert.Kernel4Ideal Cert.Kernel4Ideal.Gen Cert.MergeMath Cert.MergeKernel
open Cert.FfnMath (rms dense)
open Idealize.ShloMosaic Idealize.ShloMosaic.TcCoe Idealize.SL.Sem
open Idealize.ShloMosaic.Pipeline (Dat)

/-- Each row of the flattened stream, merged. -/
def stream (x0 x1 : Vec Ideal S2x16384x1024 .f32) (x2 : Vec Ideal S2x16384x256 .f32) (x3 x4 : Vec Ideal S2x16384x512 .f32)
    (x5 : Vec Ideal S1x1024x3072 .f32) (x6 : Vec Ideal S1x3072 .f32) (x7 : Vec Ideal S1x256x1024 .f32) (x8 x9 : Vec Ideal S1x512x1024 .f32)
    (x10 : Vec Ideal S1x1024x1024 .f32) (x11 : Vec Ideal S1x1024 .f32) : Vec Ideal S32768x1024 .f32 := fun i =>
  merge (rowOf x0 (seqOf (i 0)) (posOf (i 0))) (rowOf x1 (seqOf (i 0)) (posOf (i 0))) (gateOf x5) (biasOf x6)
    (aOf x2 (seqOf (i 0)) (posOf (i 0))) (narrowOf x7) (halfOf x3 (seqOf (i 0)) (posOf (i 0))) (wideOf x8)
    (halfOf x4 (seqOf (i 0)) (posOf (i 0))) (wideOf x9) (squareOf x10) (gainOf x11) (i 1)

/-- A permutation table picks one row. -/
theorem picked_eq (x2 : Vec Ideal S1x16x4x16x256 .bf16) (x5 : Vec Ideal S256x256 .bf16)
    (h : ∀ p q : Fin 256, x5 (ix2 p q) = if q.val = p.val % 16 * 16 + p.val / 16 then (1 : EReal) else 0) (r : Fin 1024) (k : Fin 256) :
    picked x2 x5 r k = x2 (ix5 0 ⟨r.val % 16, by omega⟩ ⟨r.val / 256, by omega⟩ ⟨r.val % 256 / 16, by omega⟩ k) := by
  unfold picked
  refine (Finset.sum_eq_single (⟨r.val % 16 * 16 + r.val % 256 / 16, by omega⟩ : Fin 256) ?_ ?_).trans ?_
  · intro q _ hq
    rw [h, if_neg, zero_mul]
    intro e
    exact hq (Fin.ext (e.trans (by show r.val % 256 % 16 * 16 + r.val % 256 / 16 = r.val % 16 * 16 + r.val % 256 / 16; omega)))
  · intro hq
    exact absurd (Finset.mem_univ _) hq
  · have e0 : (⟨(r.val % 16 * 16 + r.val % 256 / 16) / 16, by omega⟩ : Fin 16) = ⟨r.val % 16, by omega⟩ :=
      Fin.ext (by show (r.val % 16 * 16 + r.val % 256 / 16) / 16 = r.val % 16; omega)
    have e1 : (⟨(r.val % 16 * 16 + r.val % 256 / 16) % 16, by omega⟩ : Fin 16) = ⟨r.val % 256 / 16, by omega⟩ :=
      Fin.ext (by show (r.val % 16 * 16 + r.val % 256 / 16) % 16 = r.val % 256 / 16; omega)
    rw [h, if_pos (by show r.val % 16 * 16 + r.val % 256 / 16 = r.val % 256 % 16 * 16 + r.val % 256 / 16; omega), one_mul]
    show x2 (ix5 0 ⟨(r.val % 16 * 16 + r.val % 256 / 16) / 16, _⟩ _ ⟨(r.val % 16 * 16 + r.val % 256 / 16) % 16, _⟩ k) = _
    rw [e0, e1]

variable (m : (ℓ : Loc nD τ sig) → Buf (Elt Ideal) ℓ) (ρ : Dev nD → PrngReg)

/-! ## The arrays at the region's entry -/

theorem entry_h (c : Dev nD) (r : Fin 32768) (k : Fin 1024) :
    V m c main_v4 (ix2 r k) = rowOf (m ((c : Thread nD τ).loc main_arg0)) (seqOf r) (posOf r) k := by
  entry_read
  pointwise
  rfl

theorem entry_u (c : Dev nD) (r : Fin 32768) (k : Fin 1024) :
    V m c main_v6 (ix2 r k) = rowOf (m ((c : Thread nD τ).loc main_arg1)) (seqOf r) (posOf r) k := by
  entry_read
  pointwise
  rfl

/-- The dilated source in the order of its own call: chunk, residue, tile, row. -/
theorem entry_a (c : Dev nD) (n j : Fin 16) (t : Fin 8) (r : Fin 16) (k : Fin 256) (R : Fin 32768)
    (hR : R.val = 2048 * n.val + 256 * t.val + 16 * r.val + j.val) :
    V m c main_v2 (ix5 n j t r k) = aOf (m ((c : Thread nD τ).loc main_arg2)) (seqOf R) (posOf R) k := by
  entry_read
  pointwise
  have e0 : seqOf R = ⟨n.val / 8, by omega⟩ := Fin.ext (by show R.val / 16384 = n.val / 8; omega)
  have e1 : posOf R = ⟨n.val % 8 * 2048 + t.val * 256 + r.val * 16 + j.val, by omega⟩ :=
    Fin.ext (by show R.val % 16384 = n.val % 8 * 2048 + t.val * 256 + r.val * 16 + j.val; omega)
  rw [e0, e1]

theorem entry_b (c : Dev nD) (r : Fin 32768) (k : Fin 512) :
    V m c main_v8 (ix2 r k) = halfOf (m ((c : Thread nD τ).loc main_arg3)) (seqOf r) (posOf r) k := by
  entry_read
  pointwise
  rfl

theorem entry_m (c : Dev nD) (r : Fin 32768) (k : Fin 512) :
    V m c main_v10 (ix2 r k) = halfOf (m ((c : Thread nD τ).loc main_arg4)) (seqOf r) (posOf r) k := by
  entry_read
  pointwise
  rfl

/-- The table's literal at a flat index. -/
theorem lit_apply : ∀ i : Fin 65536, lit0 i = lit0t i.val
  | ⟨_, _⟩ => rfl

theorem flat_val (p q : Fin 256) : (S256x256.rowMajor (ix2 p q)).val = 256 * p.val + q.val := by
  rw [Shape.rowMajor_val_two]
  exact congrArg (· + q.val) (Nat.mul_comm p.val 256)

theorem lit_at (p q : Fin 256) : lit0 (S256x256.rowMajor (ix2 p q)) = Cert.MergeTable.word p.val q.val :=
  (lit_apply _).trans ((congrArg lit0t (flat_val p q)).trans (Cert.MergeTable.table p q))

theorem entry_perm (c : Dev nD) (p q : Fin 256) :
    V m c main_v3 (ix2 p q) = if q.val = p.val % 16 * 16 + p.val / 16 then (1 : EReal) else 0 := by
  entry_read
  refine (congrArg (Ideal.ofBits .f32) (lit_at p q)).trans ?_
  unfold Cert.MergeTable.word
  split
  · exact Ideal.ofBits_one_f32
  · exact Ideal.ofBits_zero_f32

theorem entry_gate (c : Dev nD) (k : Fin 1024) (d : Fin 3072) :
    V m c main_v12 (ix2 k d) = gateOf (m ((c : Thread nD τ).loc main_arg5)) k d := by
  entry_read
  pointwise

theorem entry_bias (c : Dev nD) (d : Fin 3072) : V m c main_v14 (ix2 0 d) = biasOf (m ((c : Thread nD τ).loc main_arg6)) d := by
  entry_read
  pointwise

theorem entry_narrow (c : Dev nD) (k : Fin 256) (d : Fin 1024) :
    V m c main_v16 (ix2 k d) = narrowOf (m ((c : Thread nD τ).loc main_arg7)) k d := by
  entry_read
  pointwise

theorem entry_wide (c : Dev nD) (k : Fin 512) (d : Fin 1024) :
    V m c main_v18 (ix2 k d) = wideOf (m ((c : Thread nD τ).loc main_arg8)) k d := by
  entry_read
  pointwise

theorem entry_memory (c : Dev nD) (k : Fin 512) (d : Fin 1024) :
    V m c main_v20 (ix2 k d) = wideOf (m ((c : Thread nD τ).loc main_arg9)) k d := by
  entry_read
  pointwise

theorem entry_square (c : Dev nD) (k d : Fin 1024) :
    V m c main_v22 (ix2 k d) = squareOf (m ((c : Thread nD τ).loc main_arg10)) k d := by
  entry_read
  pointwise

theorem entry_gain (c : Dev nD) (k : Fin 1024) : V m c main_v24 (ix2 0 k) = gainOf (m ((c : Thread nD τ).loc main_arg11)) k := by
  entry_read
  pointwise

/-! ## The windows' blocks -/

theorem point_lt : ∀ t : Fin cfg0.N, (grid0.coords t 0).val < 32 :=
  (by decide +kernel : ∀ t : Fin grid0.N, (grid0.coords t 0).val < 32)

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![(grid0.coords t 0).val, 0] :=
  (by decide +kernel : ∀ t : Fin grid0.N, win0_1.index t = ![(grid0.coords t 0).val, 0])
theorem e2 : ∀ t : Fin cfg0.N, win0_2.index t = ![(grid0.coords t 0).val / 2, 0, (grid0.coords t 0).val % 2, 0, 0] :=
  (by decide +kernel : ∀ t : Fin grid0.N, win0_2.index t = ![(grid0.coords t 0).val / 2, 0, (grid0.coords t 0).val % 2, 0, 0])
theorem e3 : ∀ t : Fin cfg0.N, win0_3.index t = ![(grid0.coords t 0).val, 0] :=
  (by decide +kernel : ∀ t : Fin grid0.N, win0_3.index t = ![(grid0.coords t 0).val, 0])
theorem e4 : ∀ t : Fin cfg0.N, win0_4.index t = ![(grid0.coords t 0).val, 0] :=
  (by decide +kernel : ∀ t : Fin grid0.N, win0_4.index t = ![(grid0.coords t 0).val, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![0, 0] := (by decide +kernel : ∀ t : Fin grid0.N, win0_7.index t = ![0, 0])
theorem e8 : ∀ t : Fin cfg0.N, win0_8.index t = ![0, 0] := (by decide +kernel : ∀ t : Fin grid0.N, win0_8.index t = ![0, 0])
theorem e9 : ∀ t : Fin cfg0.N, win0_9.index t = ![0, 0] := (by decide +kernel : ∀ t : Fin grid0.N, win0_9.index t = ![0, 0])
theorem e10 : ∀ t : Fin cfg0.N, win0_10.index t = ![0, 0] := (by decide +kernel : ∀ t : Fin grid0.N, win0_10.index t = ![0, 0])
theorem e11 : ∀ t : Fin cfg0.N, win0_11.index t = ![0, 0] := (by decide +kernel : ∀ t : Fin grid0.N, win0_11.index t = ![0, 0])
theorem e12 : ∀ t : Fin cfg0.N, win0_12.index t = ![0, 0] := (by decide +kernel : ∀ t : Fin grid0.N, win0_12.index t = ![0, 0])
theorem e13 : ∀ t : Fin cfg0.N, win0_13.index t = ![(grid0.coords t 0).val, 0] :=
  (by decide +kernel : ∀ t : Fin grid0.N, win0_13.index t = ![(grid0.coords t 0).val, 0])

/-- The stream's row that row `r` of step `t`'s blocks is. -/
def rowAt (t : Fin cfg0.N) (r : Fin 1024) : Fin 32768 := ⟨(grid0.coords t 0).val * 1024 + r.val, by have := point_lt t; omega⟩

theorem blk0 (c : Dev nD) (t : Fin cfg0.N) (r k : Fin 1024) : iblk m c 0 t (ix2 r k) = V m c main_v4 (ix2 (rowAt t r) k) := by
  blk_simp [iblk]
  refine congrArg (V m c main_v4) ?_
  blk_ext [e0, rowAt]

theorem blk1 (c : Dev nD) (t : Fin cfg0.N) (r k : Fin 1024) : iblk m c 1 t (ix2 r k) = V m c main_v6 (ix2 (rowAt t r) k) := by
  blk_simp [iblk]
  refine congrArg (V m c main_v6) ?_
  blk_ext [e1, rowAt]

theorem blk2 (c : Dev nD) (t : Fin cfg0.N) (j : Fin 16) (s : Fin 4) (r : Fin 16) (k : Fin 256) :
    iblk m c 2 t (ix5 0 j s r k)
      = V m c main_v2 (ix5 ⟨(grid0.coords t 0).val / 2, by have := point_lt t; omega⟩ j
          ⟨(grid0.coords t 0).val % 2 * 4 + s.val, by omega⟩ r k) := by
  blk_simp [iblk]
  refine congrArg (V m c main_v2) ?_
  blk_ext [e2]

theorem blk3 (c : Dev nD) (t : Fin cfg0.N) (r : Fin 1024) (k : Fin 512) : iblk m c 3 t (ix2 r k) = V m c main_v8 (ix2 (rowAt t r) k) := by
  blk_simp [iblk]
  refine congrArg (V m c main_v8) ?_
  blk_ext [e3, rowAt]

theorem blk4 (c : Dev nD) (t : Fin cfg0.N) (r : Fin 1024) (k : Fin 512) : iblk m c 4 t (ix2 r k) = V m c main_v10 (ix2 (rowAt t r) k) := by
  blk_simp [iblk]
  refine congrArg (V m c main_v10) ?_
  blk_ext [e4, rowAt]

theorem blk5 (c : Dev nD) (t : Fin cfg0.N) (p q : Fin 256) : iblk m c 5 t (ix2 p q) = V m c main_v3 (ix2 p q) := by
  blk_simp [iblk]
  refine congrArg (V m c main_v3) ?_
  blk_ext [e5]

theorem blk6 (c : Dev nD) (t : Fin cfg0.N) (k : Fin 1024) (d : Fin 3072) : iblk m c 6 t (ix2 k d) = V m c main_v12 (ix2 k d) := by
  blk_simp [iblk]
  refine congrArg (V m c main_v12) ?_
  blk_ext [e6]

theorem blk7 (c : Dev nD) (t : Fin cfg0.N) (d : Fin 3072) : iblk m c 7 t (ix2 0 d) = V m c main_v14 (ix2 0 d) := by
  blk_simp [iblk]
  refine congrArg (V m c main_v14) ?_
  blk_ext [e7]

theorem blk8 (c : Dev nD) (t : Fin cfg0.N) (k : Fin 256) (d : Fin 1024) : iblk m c 8 t (ix2 k d) = V m c main_v16 (ix2 k d) := by
  blk_simp [iblk]
  refine congrArg (V m c main_v16) ?_
  blk_ext [e8]

theorem blk9 (c : Dev nD) (t : Fin cfg0.N) (k : Fin 512) (d : Fin 1024) : iblk m c 9 t (ix2 k d) = V m c main_v18 (ix2 k d) := by
  blk_simp [iblk]
  refine congrArg (V m c main_v18) ?_
  blk_ext [e9]

theorem blk10 (c : Dev nD) (t : Fin cfg0.N) (k : Fin 512) (d : Fin 1024) : iblk m c 10 t (ix2 k d) = V m c main_v20 (ix2 k d) := by
  blk_simp [iblk]
  refine congrArg (V m c main_v20) ?_
  blk_ext [e10]

theorem blk11 (c : Dev nD) (t : Fin cfg0.N) (k d : Fin 1024) : iblk m c 11 t (ix2 k d) = V m c main_v22 (ix2 k d) := by
  blk_simp [iblk]
  refine congrArg (V m c main_v22) ?_
  blk_ext [e11]

theorem blk12 (c : Dev nD) (t : Fin cfg0.N) (k : Fin 1024) : iblk m c 12 t (ix2 0 k) = V m c main_v24 (ix2 0 k) := by
  blk_simp [iblk]
  refine congrArg (V m c main_v24) ?_
  blk_ext [e12]

theorem place (t : Fin cfg0.N) (r k : Fin 1024) : (win0_13.blk t).view.emb (ix2 r k) = ix2 (rowAt t r) k := by
  blk_ext [e13, rowAt]

/-- The row of the dilated source that a row of the block takes is the stream's row. -/
theorem picked_row (c : Dev nD) (t : Fin cfg0.N) (r : Fin 1024) :
    picked (iblk m c 2 t) (iblk m c 5 t) r = aOf (m ((c : Thread nD τ).loc main_arg2)) (seqOf (rowAt t r)) (posOf (rowAt t r)) := by
  funext k
  rw [picked_eq _ _ (fun p q => (blk5 m c t p q).trans (entry_perm m c p q))]
  refine (blk2 m c t _ _ _ k).trans (entry_a m c _ _ _ _ k _ ?_)
  show (grid0.coords t 0).val * 1024 + r.val
    = 2048 * ((grid0.coords t 0).val / 2) + 256 * ((grid0.coords t 0).val % 2 * 4 + r.val / 256) + 16 * (r.val % 256 / 16) + r.val % 16
  omega

/-- The result array after the run. -/
theorem final (c : Dev nD) :
    (dats m 0 c).arrAt 13 cfg0.N
      = stream (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  refine (dats m 0 c).arrAt_eq_of_covers 13 _ (by decide +kernel) fun t _ y => ?_
  blk_simp
  rw [after0_13]
  obtain ⟨r, k, rfl⟩ : ∃ r k : Fin 1024, y = ix2 r k := ⟨y 0, y 1, funext fun a => by fin_cases a <;> rfl⟩
  rw [place, out_apply]
  have p0 := fun j => (blk0 m c t r j).trans (entry_h m c _ j)
  have p1 := fun j => (blk1 m c t r j).trans (entry_u m c _ j)
  have p3 := fun j => (blk3 m c t r j).trans (entry_b m c _ j)
  have p4 := fun j => (blk4 m c t r j).trans (entry_m m c _ j)
  have p6 := fun j d => (blk6 m c t j d).trans (entry_gate m c j d)
  have p7 := fun d => (blk7 m c t d).trans (entry_bias m c d)
  have p8 := fun j d => (blk8 m c t j d).trans (entry_narrow m c j d)
  have p9 := fun j d => (blk9 m c t j d).trans (entry_wide m c j d)
  have p10 := fun j d => (blk10 m c t j d).trans (entry_memory m c j d)
  have p11 := fun j d => (blk11 m c t j d).trans (entry_square m c j d)
  have p12 := fun j => (blk12 m c t j).trans (entry_gain m c j)
  unfold mergedRow
  simp only [p0, p1, p3, p4, p6, p7, p8, p9, p10, p11, p12, picked_row]
  rfl

/-- The reference's result is the same function of its arguments. -/
theorem ref_stream (x0 x1 : Vec Ideal S2x16384x1024 .f32) (x2 : Vec Ideal S2x16384x256 .f32) (x3 x4 : Vec Ideal S2x16384x512 .f32)
    (x5 : Vec Ideal S1x1024x3072 .f32) (x6 : Vec Ideal S1x3072 .f32) (x7 : Vec Ideal S1x256x1024 .f32) (x8 x9 : Vec Ideal S1x512x1024 .f32)
    (x10 : Vec Ideal S1x1024x1024 .f32) (x11 : Vec Ideal S1x1024 .f32) :
    Cert.Reference4Ideal.Read.val_main_v43 (F := Ideal) x0 x1 x2 x3 x4 x5 x6 x7 x8 x9 x10 x11
      = stream x0 x1 x2 x3 x4 x5 x6 x7 x8 x9 x10 x11 := by
  funext i
  obtain ⟨r, k, rfl⟩ : ∃ (r : Fin 32768) (k : Fin 1024), i = ix2 r k := ⟨i 0, i 1, funext fun a => by fin_cases a <;> rfl⟩
  exact ref_flat x0 x1 x2 x3 x4 x5 x6 x7 x8 x9 x10 x11 r k

/-! ## The claims -/

theorem quiescent_kernel : Cert.quiescent_Kernel4 (hKernel4 := Cert.Kernel4.Gen.facts) :=
  fun m ρ _ => Cert.Kernel4.Gen.frame m ρ

theorem quiescent_kernelIdeal : Cert.quiescent_Kernel4Ideal (hKernel4Ideal := Cert.Kernel4Ideal.Gen.facts) :=
  fun m ρ _ => Cert.Kernel4Ideal.Gen.frame m ρ

/-- The host reference runs to the end and leaves its arguments alone. -/
theorem quiescent_reference : Cert.quiescent_Reference4Ideal (hReference4Ideal := Cert.Reference4Ideal.Gen.facts) :=
  fun m ρ _ => (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- Kernel and reference leave the same result. -/
theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => stream (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)), ?_, ?_⟩
  · exact (θ_run defs _ _).mono (fun r h c => ⟨(h c).1.trans (final m c), (h c).2⟩) (Value.run_blocks m ρ)
  · refine (θ_run Cert.Reference4Ideal.defs _ _).mono (fun r h c => ⟨(h c).1.trans ?_, (h c).2⟩)
      (Cert.Reference4Ideal.Value.run (F := Ideal) m' ρ')
    obtain ⟨g0, g1, g2, g3, g4, g5, g6, g7, g8, g9, g10, g11⟩ := hagree c
    rw [Cert.Reference4Ideal.Read.val_main_v43_eq, g0, g1, g2, g3, g4, g5, g6, g7, g8, g9, g10, g11]
    exact ref_stream ..

end Cert.MergeArray
-- ==== Proof.MemArray.lean ====
/-
The memory tokens' keys and values: both results as functions of the arguments, and their claims.
-/
module

public import proofs.«01_k».proof.Defs
public import proofs.«01_k».proof.Proof.FfnMath
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Lib.Quiescent

@[expose] public section

set_option maxRecDepth 16384

noncomputable section

namespace Cert.MemArray

open Cert.Kernel5Ideal Cert.Kernel5Ideal.Gen
open Cert.FfnMath (rms dense)
open Idealize.ShloMosaic Idealize.ShloMosaic.TcCoe Idealize.SL.Sem
open Idealize.ShloMosaic.Pipeline (Dat)

/-- The columns of the keys and of the values in the shared projection. -/
def keyCol (d : Fin 512) : Fin 1024 := ⟨d.val, by have := d.isLt; omega⟩
def valueCol (d : Fin 512) : Fin 1024 := ⟨d.val + 512, by have := d.isLt; omega⟩

/-- Column `k` of the projection of a memory token's norm. -/
def token (x0 : Vec Ideal S2x256x1024 .f32) (x1 : Vec Ideal S1x1024 .f32) (x2 : Vec Ideal S1x1024x1024 .f32) (b : Fin 2) (r : Fin 256) :
    Fin 1024 → EReal :=
  dense (rms (fun k => x0 (ix3 b r k)) (fun k => x1 (ix2 0 k))) (fun k d => x2 (ix3 0 k d))

def keys (x0 : Vec Ideal S2x256x1024 .f32) (x1 : Vec Ideal S1x1024 .f32) (x2 : Vec Ideal S1x1024x1024 .f32) :
    Vec Ideal S2x256x512 .bf16 := fun i => token x0 x1 x2 (i 0) (i 1) (keyCol (i 2))

def values (x0 : Vec Ideal S2x256x1024 .f32) (x1 : Vec Ideal S1x1024 .f32) (x2 : Vec Ideal S1x1024x1024 .f32) :
    Vec Ideal S2x256x512 .bf16 := fun i => token x0 x1 x2 (i 0) (i 1) (valueCol (i 2))

/-! ## One step -/

section Step

variable (x0 : Vec Ideal S1x256x1024 .f32) (x1 : Vec Ideal S1x1024 .f32) (x2 : Vec Ideal S1024x1024 .bf16)

/-- A token's projection in the blocks of a step. -/
abbrev row (r : Fin 256) : Fin 1024 → EReal :=
  dense (rms (fun k => x0 (ix3 0 r k)) (fun k => x1 (ix2 0 k))) (fun k d => x2 (ix2 k d))

theorem row_pay (r : Fin 256) (d : Fin 1024) :
    k0_pay1 (View.ld x0 r0_0) (View.ld x1 r0_1) (View.ld x2 r0_2) (ix2 r d) = row x0 x1 x2 r d := by
  pointwise [k0_pay1]
  rfl

theorem keys_apply (r : Fin 256) (d : Fin 512) : out0_3 x0 x1 x2 (ix3 0 r d) = row x0 x1 x2 r (keyCol d) := by
  unfold out0_3
  rw [Value.canon3_eq]
  refine (congrArg (k0_pay1 (View.ld x0 r0_0) (View.ld x1 r0_1) (View.ld x2 r0_2)) ?_).trans (row_pay x0 x1 x2 r (keyCol d))
  funext a
  fin_cases a <;> rfl

theorem values_apply (r : Fin 256) (d : Fin 512) : out0_4 x0 x1 x2 (ix3 0 r d) = row x0 x1 x2 r (valueCol d) := by
  unfold out0_4
  rw [Value.canon4_eq]
  refine (congrArg (k0_pay1 (View.ld x0 r0_0) (View.ld x1 r0_1) (View.ld x2 r0_2)) ?_).trans (row_pay x0 x1 x2 r (valueCol d))
  funext a
  fin_cases a <;> rfl

end Step

variable (m : (ℓ : Loc nD τ sig) → Buf (Elt Ideal) ℓ) (ρ : Dev nD → PrngReg)

/-! ## The arrays at the region's entry, and the windows' blocks -/

theorem entry_gain (c : Dev nD) (k : Fin 1024) : V m c main_v1 (ix2 0 k) = m ((c : Thread nD τ).loc main_arg1) (ix2 0 k) := by
  entry_read
  pointwise

theorem entry_weights (c : Dev nD) (k d : Fin 1024) : V m c main_v3 (ix2 k d) = m ((c : Thread nD τ).loc main_arg2) (ix3 0 k d) := by
  entry_read
  pointwise

theorem point_lt : ∀ t : Fin cfg0.N, (grid0.coords t 0).val < 2 :=
  (by decide +kernel : ∀ t : Fin grid0.N, (grid0.coords t 0).val < 2)

theorem e0 : ∀ t : Fin cfg0.N, win0_0.index t = ![(grid0.coords t 0).val, 0, 0] :=
  (by decide +kernel : ∀ t : Fin grid0.N, win0_0.index t = ![(grid0.coords t 0).val, 0, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![(grid0.coords t 0).val, 0, 0] :=
  (by decide +kernel : ∀ t : Fin grid0.N, win0_3.index t = ![(grid0.coords t 0).val, 0, 0])
theorem e4 : ∀ t : Fin cfg0.N, win0_4.index t = ![(grid0.coords t 0).val, 0, 0] :=
  (by decide +kernel : ∀ t : Fin grid0.N, win0_4.index t = ![(grid0.coords t 0).val, 0, 0])

/-- The sequence step `t` works on. -/
def seqAt (t : Fin cfg0.N) : Fin 2 := ⟨(grid0.coords t 0).val, point_lt t⟩

theorem blk0 (c : Dev nD) (t : Fin cfg0.N) (r : Fin 256) (k : Fin 1024) :
    iblk m c 0 t (ix3 0 r k) = m ((c : Thread nD τ).loc main_arg0) (ix3 (seqAt t) r k) := by
  blk_simp [iblk]
  refine congrArg (V m c main_arg0) ?_
  blk_ext [e0, seqAt]

theorem blk1 (c : Dev nD) (t : Fin cfg0.N) (k : Fin 1024) : iblk m c 1 t (ix2 0 k) = V m c main_v1 (ix2 0 k) := by
  blk_simp [iblk]
  refine congrArg (V m c main_v1) ?_
  blk_ext [e1]

theorem blk2 (c : Dev nD) (t : Fin cfg0.N) (k d : Fin 1024) : iblk m c 2 t (ix2 k d) = V m c main_v3 (ix2 k d) := by
  blk_simp [iblk]
  refine congrArg (V m c main_v3) ?_
  blk_ext [e2]

theorem place3 (t : Fin cfg0.N) (r : Fin 256) (d : Fin 512) : (win0_3.blk t).view.emb (ix3 0 r d) = ix3 (seqAt t) r d := by
  blk_ext [e3, seqAt]

theorem place4 (t : Fin cfg0.N) (r : Fin 256) (d : Fin 512) : (win0_4.blk t).view.emb (ix3 0 r d) = ix3 (seqAt t) r d := by
  blk_ext [e4, seqAt]

/-- A block's token is the arguments' token. -/
theorem row_eq (c : Dev nD) (t : Fin cfg0.N) (r : Fin 256) :
    row (iblk m c 0 t) (iblk m c 1 t) (iblk m c 2 t) r
      = token (m ((c : Thread nD τ).loc main_arg0)) (m ((c : Thread nD τ).loc main_arg1)) (m ((c : Thread nD τ).loc main_arg2)) (seqAt t) r := by
  have p0 := fun k => blk0 m c t r k
  have p1 := fun k => (blk1 m c t k).trans (entry_gain m c k)
  have p2 := fun k d => (blk2 m c t k d).trans (entry_weights m c k d)
  unfold row
  simp only [p0, p1, p2]
  rfl

theorem block_index (y : S1x256x512.Idx) : ∃ (r : Fin 256) (d : Fin 512), y = ix3 0 r d :=
  ⟨y 1, y 2, funext fun a => by
    fin_cases a
    · exact Subsingleton.elim (α := Fin 1) _ _
    · rfl
    · rfl⟩

theorem final_keys (c : Dev nD) :
    (dats m 0 c).arrAt 3 cfg0.N
      = keys (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨r, d, rfl⟩ := block_index y
  rw [place3, keys_apply, row_eq]
  rfl

theorem final_values (c : Dev nD) :
    (dats m 0 c).arrAt 4 cfg0.N
      = values (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  obtain ⟨r, d, rfl⟩ := block_index y
  rw [place4, values_apply, row_eq]
  rfl

/-! ## The reference -/

section Reference

open Cert.Reference5Ideal.Read

variable (x0 : Vec Ideal S2x256x1024 .f32) (x1 : Vec Ideal S1x1024 .f32) (x2 : Vec Ideal S1x1024x1024 .f32)

theorem ref_normed (b : Fin 2) (r : Fin 256) (k : Fin 1024) :
    val_main_v13 (F := Ideal) x0 x1 (ix3 b r k) = rms (fun k => x0 (ix3 b r k)) (fun k => x1 (ix2 0 k)) k := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

theorem ref_token (b : Fin 2) (r : Fin 256) (d : Fin 1024) : val_main_v15 (F := Ideal) x0 x1 x2 (ix3 b r d) = token x0 x1 x2 b r d := by
  have h := ref_normed x0 x1 b r
  unfold val_main_v15
  generalize val_main_v13 (F := Ideal) x0 x1 = y at h ⊢
  pointwise [val_main_v14]
  simp only [h]
  rfl

theorem ref_keys : val_main_v18 (F := Ideal) x0 x1 x2 = keys x0 x1 x2 := by
  funext i
  obtain ⟨b, r, d, rfl⟩ : ∃ (b : Fin 2) (r : Fin 256) (d : Fin 512), i = ix3 b r d := ⟨i 0, i 1, i 2, funext fun a => by fin_cases a <;> rfl⟩
  refine Eq.trans ?_ (ref_token x0 x1 x2 b r (keyCol d))
  unfold val_main_v18 val_main_v16
  generalize val_main_v15 (F := Ideal) x0 x1 x2 = y
  pointwise
  rfl

theorem ref_values : val_main_v19 (F := Ideal) x0 x1 x2 = values x0 x1 x2 := by
  funext i
  obtain ⟨b, r, d, rfl⟩ : ∃ (b : Fin 2) (r : Fin 256) (d : Fin 512), i = ix3 b r d := ⟨i 0, i 1, i 2, funext fun a => by fin_cases a <;> rfl⟩
  refine Eq.trans ?_ (ref_token x0 x1 x2 b r (valueCol d))
  unfold val_main_v19 val_main_v17
  generalize val_main_v15 (F := Ideal) x0 x1 x2 = y
  pointwise
  exact congrArg (fun k => y (ix3 b r k)) (Fin.ext (Nat.add_comm 512 d.val))

end Reference

/-! ## The claims -/

theorem quiescent_kernel : Cert.quiescent_Kernel5 (hKernel5 := Cert.Kernel5.Gen.facts) :=
  fun m ρ _ => Cert.Kernel5.Gen.frame m ρ

theorem quiescent_kernelIdeal : Cert.quiescent_Kernel5Ideal (hKernel5Ideal := Cert.Kernel5Ideal.Gen.facts) :=
  fun m ρ _ => Cert.Kernel5Ideal.Gen.frame m ρ

/-- The host reference runs to the end and leaves its arguments alone. -/
theorem quiescent_reference : Cert.quiescent_Reference5Ideal (hReference5Ideal := Cert.Reference5Ideal.Gen.facts) :=
  fun m ρ _ => (θ_run Cert.Reference5Ideal.defs _ _).mono
    (fun r h => ⟨fun c => (h c).2.2, Idealize.ShloMosaic.sem_eq_zero_of_no_sems (by decide) r.2⟩)
    (Cert.Reference5Ideal.Value.run (F := Ideal) m ρ)

/-- Kernel and reference leave the same keys and the same values. -/
theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => keys (m ((c : Thread nD τ).loc main_arg0)) (m ((c : Thread nD τ).loc main_arg1)) (m ((c : Thread nD τ).loc main_arg2)),
    fun c => values (m ((c : Thread nD τ).loc main_arg0)) (m ((c : Thread nD τ).loc main_arg1)) (m ((c : Thread nD τ).loc main_arg2)), ?_, ?_⟩
  · exact (θ_run defs _ _).mono (fun r h c => ⟨(h c).1.trans (final_keys m c), (h c).2.1.trans (final_values m c), (h c).2.2⟩)
      (Value.run_blocks m ρ)
  · refine (θ_run Cert.Reference5Ideal.defs _ _).mono (fun r h c => ⟨(h c).1.trans ?_, (h c).2.1.trans ?_, (h c).2.2⟩)
      (Cert.Reference5Ideal.Value.run (F := Ideal) m' ρ')
    · obtain ⟨g0, g1, g2⟩ := hagree c
      rw [Cert.Reference5Ideal.Read.val_main_v18_eq, g0, g1, g2]
      exact ref_keys ..
    · obtain ⟨g0, g1, g2⟩ := hagree c
      rw [Cert.Reference5Ideal.Read.val_main_v19_eq, g0, g1, g2]
      exact ref_values ..

end Cert.MemArray
-- ==== Proof.lean ====
/-
The proof of `Cert.Claim`: the witnesses of the programs' side conditions, then the claims in order.
-/
module

public import proofs.«01_k».proof.Defs
public import proofs.«01_k».proof.Proof.Claims
public import proofs.«01_k».proof.Proof.FfnArray
public import proofs.«01_k».proof.Proof.BandClaim
public import proofs.«01_k».proof.Proof.Ffn1Array
public import proofs.«01_k».proof.Proof.MergeArray
public import proofs.«01_k».proof.Proof.MemArray

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Claims.quiescent_kernel, Cert.Claims.quiescent_kernelIdeal, Cert.Claims.quiescent_reference,
    Cert.Claims.quiescent_kernel2, Cert.Claims.quiescent_kernel2Ideal, Cert.FfnArray.quiescent_reference,
    Cert.Ffn1Array.quiescent_kernel, Cert.Ffn1Array.quiescent_kernelIdeal, Cert.Ffn1Array.quiescent_reference,
    Cert.MergeArray.quiescent_kernel, Cert.MergeArray.quiescent_kernelIdeal, Cert.MergeArray.quiescent_reference,
    Cert.MemArray.quiescent_kernel, Cert.MemArray.quiescent_kernelIdeal, Cert.MemArray.quiescent_reference,
    Cert.Claims.preserves_band, Cert.BandClaim.algebraic, trivial, Cert.FfnArray.algebraic, trivial,
    Cert.Ffn1Array.algebraic, trivial, Cert.MergeArray.algebraic, trivial, Cert.MemArray.algebraic⟩

end Cert.Proof

end
